-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3072, 1536]⟩ ⟨2, ![3072, 6144]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1536, 3072]⟩ ⟨2, ![6144, 3072]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![768, 3072]⟩ ⟨2, ![3072, 3072]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1536 : Shape := ⟨2, ![3072, 1536]⟩
abbrev S1536x3072 : Shape := ⟨2, ![1536, 3072]⟩
abbrev S768x3072 : Shape := ⟨2, ![768, 3072]⟩
abbrev S6x768x1536 : Shape := ⟨3, ![6, 768, 1536]⟩
abbrev S768x1536 : Shape := ⟨2, ![768, 1536]⟩
abbrev S2x768x1536 : Shape := ⟨3, ![2, 768, 1536]⟩
abbrev S1536x768 : Shape := ⟨2, ![1536, 768]⟩
abbrev S12 : Shape := ⟨1, ![12]⟩
abbrev S_ : Shape := ⟨0, ![]⟩
abbrev S1x768x1536 : Shape := ⟨3, ![1, 768, 1536]⟩
abbrev S768x768 : Shape := ⟨2, ![768, 768]⟩
abbrev S1x768x768 : Shape := ⟨3, ![1, 768, 768]⟩
abbrev S1 : Shape := ⟨1, ![1]⟩
abbrev S1536x1536 : Shape := ⟨2, ![1536, 1536]⟩

abbrev nBuf : Space → Nat
  | .hbm => 3
  | .vmem => 7
  | .smem => 0
  | _ => 0

abbrev bufTy : (tb : Table) → Fin (tcTables nBuf tb) → BufTy
  | .hbm, ⟨0, _⟩ => ⟨S3072x1536, .f32⟩
  | .hbm, ⟨1, _⟩ => ⟨S1536x3072, .f32⟩
  | .hbm, ⟨2, _⟩ => ⟨S768x3072, .bf16⟩
  | .local _ .vmem, ⟨0, _⟩ => ⟨S768x3072, .bf16⟩
  | .local _ .vmem, ⟨1, _⟩ => ⟨S6x768x1536, .bf16⟩
  | .local _ .vmem, ⟨2, _⟩ => ⟨S6x768x1536, .bf16⟩
  | .local _ .vmem, ⟨3, _⟩ => ⟨S768x1536, .f32⟩
  | .local _ .vmem, ⟨4, _⟩ => ⟨S2x768x1536, .bf16⟩
  | .local _ .vmem, ⟨5, _⟩ => ⟨S1536x768, .f32⟩
  | .local _ .vmem, ⟨6, _⟩ => ⟨S1536x3072, .bf16⟩
  | _, _ => ⟨S3072x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_19 : BitVec 32 := 1#32
  let v37 : BitVec 32 := Scalar.muli v24 c1_i32_19
  let v38 : BitVec 32 := Scalar.addi c0_i32_20 v37
  v38.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22 : BitVec 32 := 1#32
  let v39 : BitVec 32 := Scalar.muli v13 c1_i32_22
  let v40 : BitVec 32 := Scalar.addi c0_i32_23 v39
  v40.toNat
def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c768_i32 : BitVec 32 := 768#32
  let v41 : BitVec 32 := Scalar.muli v35 c768_i32
  let c0_i32_25 : BitVec 32 := 0#32
  ![v41.toNat, 0]
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_54 : BitVec 32 := 1#32
  let v67 : BitVec 32 := Scalar.muli v13 c1_i32_54
  let v68 : BitVec 32 := Scalar.addi c0_i32_55 v67
  v68.toNat
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_78 : BitVec 32 := 1#32
  let v92 : BitVec 32 := Scalar.muli v24 c1_i32_78
  let v93 : BitVec 32 := Scalar.addi c0_i32_79 v92
  v93.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_103 : BitVec 32 := 1#32
  let v117 : BitVec 32 := Scalar.muli v13 c1_i32_103
  let v118 : BitVec 32 := Scalar.addi c0_i32_104 v117
  v118.toNat
def k0_dev6 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_133 : BitVec 32 := 1#32
  let v149 : BitVec 32 := Scalar.muli v24 c1_i32_133
  let v150 : BitVec 32 := Scalar.addi c0_i32_134 v149
  v150.toNat
def k0_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_152 : BitVec 32 := 1#32
  let v167 : BitVec 32 := Scalar.muli v13 c1_i32_152
  let v168 : BitVec 32 := Scalar.addi c0_i32_153 v167
  v168.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_164 : BitVec 32 := 768#32
  let v183 : BitVec 32 := Scalar.muli v2 c768_i32_164
  let c0_i32_165 : BitVec 32 := 0#32
  ![v183.toNat, 0]
def k0_dev8 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_177 : BitVec 32 := 1#32
  let v193 : BitVec 32 := Scalar.muli v24 c1_i32_177
  let v194 : BitVec 32 := Scalar.addi c0_i32_178 v193
  v194.toNat
def k0_dev9 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_196 : BitVec 32 := 1#32
  let v211 : BitVec 32 := Scalar.muli v13 c1_i32_196
  let v212 : BitVec 32 := Scalar.addi c0_i32_197 v211
  v212.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_214 : BitVec 32 := 1#32
  let v229 : BitVec 32 := Scalar.muli v24 c1_i32_214
  let v230 : BitVec 32 := Scalar.addi c0_i32_215 v229
  v230.toNat
def k0_dev11 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_277 : BitVec 32 := 1#32
  let v287 : BitVec 32 := Scalar.muli v13 c1_i32_277
  let v288 : BitVec 32 := Scalar.addi c0_i32_278 v287
  v288.toNat
def k0_dev12 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_304 : BitVec 32 := 1#32
  let v313 : BitVec 32 := Scalar.muli v24 c1_i32_304
  let v314 : BitVec 32 := Scalar.addi c0_i32_305 v313
  v314.toNat
def k0_dev13 (d0 : Dev nD) : Nat :=
  let c0_i32_334 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_333 : BitVec 32 := 1#32
  let v339 : BitVec 32 := Scalar.muli v13 c1_i32_333
  let v340 : BitVec 32 := Scalar.addi c0_i32_334 v339
  v340.toNat
def k0_dev14 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_361 : BitVec 32 := 1#32
  let v365 : BitVec 32 := Scalar.muli v24 c1_i32_361
  let v366 : BitVec 32 := Scalar.addi c0_i32_362 v365
  v366.toNat
abbrev stage0_0 : Fin 1 → Memref sig .tc .vmem S768x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S3072x6144 : Shape := ⟨2, ![3072, 6144]⟩
abbrev S6144x3072 : Shape := ⟨2, ![6144, 3072]⟩
abbrev S3072x3072 : Shape := ⟨2, ![3072, 3072]⟩

abbrev nBuf : Space → Nat
  | .hbm => 4
  | .vmem => 0
  | .smem => 0
  | _ => 0

abbrev bufTy : (tb : Table) → Fin (tcTables nBuf tb) → BufTy
  | .hbm, ⟨0, _⟩ => ⟨S3072x6144, .f32⟩
  | .hbm, ⟨1, _⟩ => ⟨S6144x3072, .f32⟩
  | .hbm, ⟨2, _⟩ => ⟨S3072x3072, .f32⟩
  | .hbm, ⟨3, _⟩ => ⟨S3072x3072, .bf16⟩
  | _, _ => ⟨S3072x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Base.lean ====
/-
  The matrix product reduced over a ring of four devices: the vocabulary of the proof.

  Device `c` holds a column block of `A` and a row block of `B`; its result is row block `c` of `A·B`, a sum of four
  partial products, one made on each device. A partial product travels in two halves of its columns: through the right
  neighbour the slots 0, 1, 2 of the transfer buffers, through the left one the slots 3, 4, 5. A slot is two PIECES of
  768 columns; piece `j` (slot `j / 2`, half `j % 2`) has a send and a receive semaphore of its own.

  Here: the neighbours, the pieces as rectangles, what each buffer's piece holds (`AR`, `A16`, `BQ`, `B16`, `part`,
  `sentV`), the assertion `held` that a core holds a rectangle of a buffer at a value, and the semaphore cells.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the ring's rounds, the counters of local transfers -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's copy: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters' copy: the right half of the right factor. -/
abbrev EC : UEmb Counters (MT nD τ sig Unit (Elt F) ℕ UU ℕ) := countersEmb

abbrev 𝒱₀ : Variants := Variants.none

/-! ## The ring -/

/-- The right neighbour, the left one, the one opposite. -/
def rgt (c : Dev nD) : Dev nD := ⟨(c.val + 1) % 4, Nat.mod_lt _ (by decide)⟩
def lft (c : Dev nD) : Dev nD := ⟨(c.val + 3) % 4, Nat.mod_lt _ (by decide)⟩
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem opp_lft (c : Dev nD) : opp (lft c) = rgt c := by revert c; decide
theorem opp_rgt (c : Dev nD) : opp (rgt c) = lft c := by revert c; decide

/-- Where device `c` sends piece `j`, and where the piece `j` it receives comes from. -/
def dst (c : Dev nD) (j : Fin 12) : Dev nD := if j.val < 6 then rgt c else lft c
def src (c : Dev nD) (j : Fin 12) : Dev nD := if j.val < 6 then lft c else rgt c
theorem src_dst (c : Dev nD) (j : Fin 12) : src (dst c j) j = c := by revert c j; decide
theorem dst_src (c : Dev nD) (j : Fin 12) : dst (src c j) j = c := by revert c j; decide

theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = dst c 0 := by revert c; decide +kernel
theorem dev4_eq (c : Dev nD) : (⟨k0_dev4 c, k0_dev4_lt c⟩ : Dev nD) = dst c 6 := by revert c; decide +kernel
theorem dev5_eq (c : Dev nD) : (⟨k0_dev5 c, k0_dev5_lt c⟩ : Dev nD) = dst c 1 := by revert c; decide +kernel
theorem dev6_eq (c : Dev nD) : (⟨k0_dev6 c, k0_dev6_lt c⟩ : Dev nD) = dst c 7 := by revert c; decide +kernel
theorem dev7_eq (c : Dev nD) : (⟨k0_dev7 c, k0_dev7_lt c⟩ : Dev nD) = dst c 2 := by revert c; decide +kernel
theorem dev8_eq (c : Dev nD) : (⟨k0_dev8 c, k0_dev8_lt c⟩ : Dev nD) = dst c 8 := by revert c; decide +kernel
theorem dev9_eq (c : Dev nD) : (⟨k0_dev9 c, k0_dev9_lt c⟩ : Dev nD) = dst c 3 := by revert c; decide +kernel
theorem dev10_eq (c : Dev nD) : (⟨k0_dev10 c, k0_dev10_lt c⟩ : Dev nD) = dst c 9 := by revert c; decide +kernel
theorem dev11_eq (c : Dev nD) : (⟨k0_dev11 c, k0_dev11_lt c⟩ : Dev nD) = dst c 4 := by revert c; decide +kernel
theorem dev12_eq (c : Dev nD) : (⟨k0_dev12 c, k0_dev12_lt c⟩ : Dev nD) = dst c 10 := by revert c; decide +kernel
theorem dev13_eq (c : Dev nD) : (⟨k0_dev13 c, k0_dev13_lt c⟩ : Dev nD) = dst c 5 := by revert c; decide +kernel
theorem dev14_eq (c : Dev nD) : (⟨k0_dev14 c, k0_dev14_lt c⟩ : Dev nD) = dst c 11 := by revert c; decide +kernel

/-- The row offsets of the blocks of `A` the kernel stages. -/
theorem off_opp (c : Dev nD) : k0_off1 c 2#32 = ![768 * (opp c).val, 0] := by revert c; decide +kernel
theorem off_rgt (c : Dev nD) : k0_off1 c 1#32 = ![768 * (rgt c).val, 0] := by revert c; decide +kernel
theorem off_lft (c : Dev nD) : k0_off1 c 3#32 = ![768 * (lft c).val, 0] := by revert c; decide +kernel

/-! ## The buffers and their rectangles -/

abbrev aM : Memref sig .tc .hbm S3072x1536 .f32 := Memref.whole main_arg0
abbrev bM : Memref sig .tc .hbm S1536x3072 .f32 := Memref.whole main_arg1
abbrev oM : Memref sig .tc .vmem S768x3072 .bf16 := Memref.whole cc0_stg0_0
abbrev sM : Memref sig .tc .vmem S6x768x1536 .bf16 := Memref.whole cc0_scratch0
abbrev vM : Memref sig .tc .vmem S6x768x1536 .bf16 := Memref.whole cc0_scratch1
abbrev asM : Memref sig .tc .vmem S768x1536 .f32 := Memref.whole cc0_scratch2
abbrev a16M : Memref sig .tc .vmem S2x768x1536 .bf16 := Memref.whole cc0_scratch3
abbrev bsM : Memref sig .tc .vmem S1536x768 .f32 := Memref.whole cc0_scratch4
abbrev b16M : Memref sig .tc .vmem S1536x3072 .bf16 := Memref.whole cc0_scratch5

/-- Piece `j` of a transfer buffer: slot `j / 2`, columns `768 * (j % 2)` on. -/
abbrev pieceOff (j : Fin 12) : Fin 3 → ℕ := ![j.val / 2, 0, 768 * (j.val % 2)]
theorem piece_inb (j : Fin 12) : ∀ a, pieceOff j a + S1x768x768.size a ≤ S6x768x1536.size a := by revert j; decide
abbrev piece (j : Fin 12) : Rect S6x768x1536 := Rect.unit (s := S6x768x1536) (pieceOff j) S1x768x768.size (piece_inb j)

theorem slot_inb (k : Fin 6) : ∀ a, (![k.val, 0, 0] : Fin 3 → ℕ) a + S1x768x1536.size a ≤ S6x768x1536.size a := by revert k; decide
/-- Slot `k` of a transfer buffer. -/
abbrev slot (k : Fin 6) : Rect S6x768x1536 := Rect.unit (s := S6x768x1536) ![k.val, 0, 0] S1x768x1536.size (slot_inb k)

theorem arow_inb (d : Dev nD) : ∀ a, (![768 * d.val, 0] : Fin 2 → ℕ) a + S768x1536.size a ≤ S3072x1536.size a := by revert d; decide
/-- Row block `d` of `A`'s block. -/
abbrev arow (d : Dev nD) : Rect S3072x1536 := Rect.unit (s := S3072x1536) ![768 * d.val, 0] S768x1536.size (arow_inb d)

theorem bcol_inb (q : Fin 4) : ∀ a, (![0, 768 * q.val] : Fin 2 → ℕ) a + S1536x768.size a ≤ S1536x3072.size a := by revert q; decide
/-- Column quarter `q` of `B`'s block. -/
abbrev bcol (q : Fin 4) : Rect S1536x3072 := Rect.unit (s := S1536x3072) ![0, 768 * q.val] S1536x768.size (bcol_inb q)

theorem bhalf_inb (h : Fin 2) : ∀ a, (![0, 1536 * h.val] : Fin 2 → ℕ) a + S1536x1536.size a ≤ S1536x3072.size a := by revert h; decide
/-- Column half `h` of `B`'s block. -/
abbrev bhalf (h : Fin 2) : Rect S1536x3072 := Rect.unit (s := S1536x3072) ![0, 1536 * h.val] S1536x1536.size (bhalf_inb h)

theorem a16_inb (k : Fin 2) : ∀ a, (![k.val, 0, 0] : Fin 3 → ℕ) a + S1x768x1536.size a ≤ S2x768x1536.size a := by revert k; decide
/-- Slot `k` of the two converted row blocks of `A`. -/
abbrev a16 (k : Fin 2) : Rect S2x768x1536 := Rect.unit (s := S2x768x1536) ![k.val, 0, 0] S1x768x1536.size (a16_inb k)

theorem ohalf_inb (h : Fin 2) : ∀ a, (![0, 1536 * h.val] : Fin 2 → ℕ) a + S768x1536.size a ≤ S768x3072.size a := by revert h; decide
/-- Column half `h` of the result. -/
abbrev ohalf (h : Fin 2) : Rect S768x3072 := Rect.unit (s := S768x3072) ![0, 1536 * h.val] S768x1536.size (ohalf_inb h)

/-! ## Contents -/

variable (m : (ℓ : Loc nD τ sig) → Buf (Elt F) ℓ) (ρ : Dev nD → PrngReg)

/-- Row block `d` of device `c`'s block of `A`. -/
def AR (c d : Dev nD) : Vec F S768x1536 .f32 := (aM.access (arow d)).read (Elt F) (m ((c : Thread nD τ).loc main_arg0))
/-- Column quarter `q` of device `c`'s block of `B`. -/
def BQ (c : Dev nD) (q : Fin 4) : Vec F S1536x768 .f32 := (bM.access (bcol q)).read (Elt F) (m ((c : Thread nD τ).loc main_arg1))
/-- The two, converted. -/
def A16 (c d : Dev nD) : Vec F S1x768x1536 .bf16 := k0_pay1 (AR m c d)
def B16 (c : Dev nD) (q : Fin 4) : Vec F S1536x768 .bf16 := k0_pay2 (BQ m c q)
/-- Device `c`'s product of row block `d` and column quarter `q`. -/
def part (c d : Dev nD) (q : Fin 4) : Vec F S1x768x768 .bf16 := k0_pay3 (A16 m c d) (B16 m c q)

/-- What device `c` sends as piece `j`: of the slots 0 and 3 its products for the device opposite; of 1 and 4 its
    products for the neighbours; of 2 and 5 its product for a neighbour plus what came in for that neighbour. -/
def sentV (c : Dev nD) : Fin 12 → Vec F S1x768x768 .bf16
  | 0 => part m c (opp c) 0
  | 1 => part m c (opp c) 1
  | 2 => part m c (rgt c) 2
  | 3 => part m c (rgt c) 3
  | 4 => k0_pay23 (part m c (rgt c) 0) (part m (lft c) (rgt c) 0)
  | 5 => k0_pay23 (part m c (rgt c) 1) (part m (lft c) (rgt c) 1)
  | 6 => part m c (opp c) 2
  | 7 => part m c (opp c) 3
  | 8 => part m c (lft c) 0
  | 9 => part m c (lft c) 1
  | 10 => k0_pay23 (part m c (lft c) 2) (part m (rgt c) (lft c) 2)
  | 11 => k0_pay23 (part m c (lft c) 3) (part m (rgt c) (lft c) 3)

/-- What device `c` receives as piece `j`. -/
def recvV (c : Dev nD) (j : Fin 12) : Vec F S1x768x768 .bf16 := sentV m (src c j) j

theorem recvV_0 (c : Dev nD) : recvV m c 0 = part m (lft c) (rgt c) 0 := by
  show part m (lft c) (opp (lft c)) 0 = _; rw [opp_lft]
theorem recvV_1 (c : Dev nD) : recvV m c 1 = part m (lft c) (rgt c) 1 := by
  show part m (lft c) (opp (lft c)) 1 = _; rw [opp_lft]
theorem recvV_6 (c : Dev nD) : recvV m c 6 = part m (rgt c) (lft c) 2 := by
  show part m (rgt c) (opp (rgt c)) 2 = _; rw [opp_rgt]
theorem recvV_7 (c : Dev nD) : recvV m c 7 = part m (rgt c) (lft c) 3 := by
  show part m (rgt c) (opp (rgt c)) 3 = _; rw [opp_rgt]

/-! ## Holding a rectangle of a buffer at a value -/

section Held
variable {sp : Space} {s : Shape} {e : EltTy}

/-- Core `c` holds the elements under rectangle `r` of `M`, which read `w`. -/
def held (c : Dev nD) (M : Memref sig .tc sp s e) (r : Rect s) (w : r.shape.Idx → Elt F e) : sProp 𝕄 :=
  iprop(∃ f : Buf (Elt F) ((M.access r).loc (c : Thread nD τ)), ⌜(M.access r).read (Elt F) f = w⌝
    ∗ ((M.access r).loc (c : Thread nD τ) ↦[(M.access r).set]{fullShare} f))

/-- … at some value. -/
def heldSome (c : Dev nD) (M : Memref sig .tc sp s e) (r : Rect s) : sProp 𝕄 :=
  iprop(∃ f : Buf (Elt F) ((M.access r).loc (c : Thread nD τ)), ((M.access r).loc (c : Thread nD τ) ↦[(M.access r).set]{fullShare} f))

omit [FloatOps F] in
instance held_storable (c : Dev nD) (M : Memref sig .tc sp s e) (r : Rect s) (w : r.shape.Idx → Elt F e) :
    BI.Storable (upEmb : UEmb _ 𝕄) (held c M r w) := by unfold held; infer_instance
omit [FloatOps F] in
instance heldSome_storable (c : Dev nD) (M : Memref sig .tc sp s e) (r : Rect s) :
    BI.Storable (upEmb : UEmb _ 𝕄) (heldSome (F := F) c M r) := by unfold heldSome; infer_instance

omit [FloatOps F] in
theorem held_some {c : Dev nD} {M : Memref sig .tc sp s e} {r : Rect s} {w : r.shape.Idx → Elt F e} :
    (held c M r w : sProp 𝕄) ⊢ heldSome c M r := by
  unfold held heldSome; iintro ⟨%f, -, H⟩; iexists f; iexact H

omit [FloatOps F] in
theorem some_held {c : Dev nD} {M : Memref sig .tc sp s e} {r : Rect s} :
    (heldSome c M r : sProp 𝕄) ⊢ iprop(∃ w, held c M r w) := by
  unfold held heldSome; iintro ⟨%f, H⟩; iexists _, f
  isplitr; · ipureintro; rfl
  iexact H

end Held

/-! ## The semaphore cells -/

abbrev barS : Sem sig := (SemArray.scalar (sig.barrier 0 rfl) : Sems sig S_).sem
/-- The send and the receive semaphore of piece `j`; the two of the local transfers. -/
abbrev sendS (j : Fin 12) : DmaSem sig := ⟨j.val + 1, by have := j.isLt; show j.val + 1 < 27; omega⟩
abbrev recvS (j : Fin 12) : DmaSem sig := ⟨j.val + 13, by have := j.isLt; show j.val + 13 < 27; omega⟩
abbrev adma : DmaSem sig := cc0_scratch8.sem
abbrev bdma : DmaSem sig := cc0_scratch9.sem

abbrev barCell (c : Dev nD) : GSem nD τ sig := ((c : Thread nD τ), .reg barS)
abbrev sendCell (c : Dev nD) (j : Fin 12) : GSem nD τ sig := ((c : Thread nD τ), .dma (sendS j))
abbrev recvCell (c : Dev nD) (j : Fin 12) : GSem nD τ sig := ((c : Thread nD τ), .dma (recvS j))

/-- Piece `j` of the send buffer and of the receive buffer, as the transfers name them: matrices of 768 by 768. -/
abbrev sPc (j : Fin 12) : Memref sig .tc .vmem S768x768 .bf16 :=
  (sM.slice (piece j) (fun _ => rfl)).squeeze S768x768 squeezes_S1x768x768_S768x768
abbrev vPc (j : Fin 12) : Memref sig .tc .vmem S768x768 .bf16 :=
  (vM.slice (piece j) (fun _ => rfl)).squeeze S768x768 squeezes_S1x768x768_S768x768

/-- Units one piece's transfer credits. -/
abbrev N : ℕ := (vPc 0).view.dmaCredit
theorem N_pos : 0 < N := View.dmaCredit_pos _ (by decide)
theorem amount_vPc (j : Fin 12) (q : DmaSem sig) : (vPc j).view.amount (.dma q) = N := rfl
theorem credit_vPc (j : Fin 12) : (vPc j).view.dmaCredit = N := rfl
theorem credit_sPc (j : Fin 12) : (sPc j).view.dmaCredit = N := rfl

omit [FloatOps F] in
/-- A piece rewritten from a piece reads what that one read. -/
theorem landed_eq (j : Fin 12) (fd : vM.view.ty.Contents (Elt F)) (fs : sM.view.ty.Contents (Elt F)) :
    (vM.access (piece j)).read (Elt F) ((vPc j).view.write (Elt F) fd ((sPc j).view.read (Elt F) fs) Finset.univ)
      = (sM.access (piece j)).read (Elt F) fs := by
  funext x
  obtain ⟨y, rfl⟩ := (Shape.reshapeEquiv (squeezes_S1x768x768_S768x768).numel_eq).surjective x
  exact congrFun (View.read_write_univ (v := (vPc j).view) fd ((sPc j).view.read (Elt F) fs)) y

end Cert.RingProof

end
-- ==== Proof.Protocol.lean ====
/-
  The ring's protocol: which core credits which semaphore cell, what each credit hands over, what each core owes at
  launch, and the order in which the cells may be waited for.

  A barrier cell takes one unit from each neighbour; with its unit a neighbour hands over the receive pieces the barrier's
  owner is going to write on it. A receive cell takes one piece's credit, with the piece landed; a send cell the same
  credit, with the sent piece back. Every cell has the one round 0.
-/
module

public import proofs.«01_k».proof.Proof.Base

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells by number: 0 the barrier, `j + 1` the send cell of piece `j`, `j + 13` its receive cell -/

def csem : Fin 25 → SemLoc sig
  | ⟨0, _⟩ => .reg barS
  | ⟨k + 1, h⟩ => .dma ⟨k + 1, by show k + 1 < 27; omega⟩
abbrev kcell (ck : Dev nD × Fin 25) : GSem nD τ sig := ((ck.1 : Thread nD τ), csem ck.2)
abbrev sendIx (j : Fin 12) : Fin 25 := ⟨j.val + 1, by omega⟩
abbrev recvIx (j : Fin 12) : Fin 25 := ⟨j.val + 13, by omega⟩

theorem kcell_bar (c : Dev nD) : kcell (c, 0) = barCell c := rfl
theorem kcell_send (c : Dev nD) (j : Fin 12) : kcell (c, sendIx j) = sendCell c j := rfl
theorem kcell_recv (c : Dev nD) (j : Fin 12) : kcell (c, recvIx j) = recvCell c j := rfl

/-! ## What the credits hand over -/

/-- The receive piece device `b`'s transfer `j` writes, at some contents. -/
abbrev room (b : Dev nD) (j : Fin 12) : sProp 𝕄 := heldSome (dst b j) vM (piece j)

/-- With its unit on `b`'s barrier: the right neighbour (`true`) the pieces of the slots 0, 1, 2, the left one those of
    the slots 3, 4, 5. -/
def barPay (b : Dev nD) (d : Bool) : sProp 𝕄 :=
  if d then iprop(room b 0 ∗ room b 1 ∗ room b 2 ∗ room b 3 ∗ room b 4 ∗ room b 5)
  else iprop(room b 6 ∗ room b 7 ∗ room b 8 ∗ room b 9 ∗ room b 10 ∗ room b 11)

def recvPay (c : Dev nD) (j : Fin 12) : sProp 𝕄 := held c vM (piece j) (recvV m c j)
def sendPay (c : Dev nD) (j : Fin 12) : sProp 𝕄 := heldSome c sM (piece j)

/-- By the number of the transfer semaphore. -/
def dmaPay (c : Dev nD) (q : ℕ) : sProp 𝕄 :=
  if h : 13 ≤ q ∧ q < 25 then recvPay m c ⟨q - 13, by omega⟩
  else if h : 1 ≤ q ∧ q < 13 then sendPay c ⟨q - 1, by omega⟩ else iprop(emp)

omit [FloatOps F] in
instance barPay_storable (b : Dev nD) (d : Bool) : BI.Storable (upEmb : UEmb _ 𝕄) (barPay (F := F) b d) := by
  unfold barPay; split <;> infer_instance
instance dmaPay_storable (c : Dev nD) (q : ℕ) : BI.Storable (upEmb : UEmb _ 𝕄) (dmaPay m c q) := by
  unfold dmaPay recvPay sendPay; (repeat' split) <;> infer_instance

theorem dmaPay_recv (c : Dev nD) (j : Fin 12) : dmaPay m c (recvS j).val = recvPay m c j := by
  have hj := j.isLt
  have h : 13 ≤ j.val + 13 ∧ j.val + 13 < 25 := by omega
  show dmaPay m c (j.val + 13) = _
  unfold dmaPay; rw [dif_pos h]
  exact congrArg (recvPay m c) (Fin.ext (by show j.val + 13 - 13 = j.val; omega))
theorem dmaPay_send (c : Dev nD) (j : Fin 12) : dmaPay m c (sendS j).val = sendPay c j := by
  have hj := j.isLt
  have h : 1 ≤ j.val + 1 ∧ j.val + 1 < 13 := by omega
  show dmaPay m c (j.val + 1) = _
  unfold dmaPay; rw [dif_neg (by omega), dif_pos h]
  exact congrArg (sendPay c) (Fin.ext (by show j.val + 1 - 1 = j.val; omega))

/-! ## The schedule -/

def dutyOf : SemLoc sig → Finset Bool
  | .reg _ => Finset.univ
  | .dma q => if 1 ≤ q.val ∧ q.val < 25 then {false} else ∅
def amountAt : SemLoc sig → ℕ
  | .reg _ => 1
  | .dma _ => N
def payAt (c : Dev nD) (d : Bool) : SemLoc sig → sProp 𝕄
  | .reg _ => barPay c d
  | .dma q => dmaPay m c q.val

def ringRd : Rounds.Schedule (GSem nD τ sig) Bool 𝕄 where
  duties g r := if r = 0 ∧ g.1.2 = .tc then dutyOf g.2 else ∅
  unitless _ := False
  amount g _ _ := amountAt g.2
  payload g _ d := payAt m g.1.1 d g.2
  amount_pos g _ _ _ := by
    rcases g with ⟨_, (_ | _)⟩
    · exact Nat.one_pos
    · exact N_pos

instance ringRd_payload_storable (g : GSem nD τ sig) (r : ℕ) (d : Bool) :
    BI.Storable (upEmb : UEmb _ 𝕄) ((ringRd m).payload g r d) := by
  show BI.Storable upEmb (payAt m g.1.1 d g.2)
  unfold payAt; split <;> infer_instance

section Sched
variable (c : Dev nD) (j : Fin 12)

theorem duties_tc (sm : SemLoc sig) : (ringRd m).duties ((c : Thread nD τ), sm) 0 = dutyOf sm := rfl
theorem duties_bar : (ringRd m).duties (barCell c) 0 = Finset.univ := duties_tc m c _
theorem duties_send : (ringRd m).duties (sendCell c j) 0 = {false} :=
  (duties_tc m c _).trans (if_pos (by have := j.isLt; show 1 ≤ j.val + 1 ∧ j.val + 1 < 25; omega))
theorem duties_recv : (ringRd m).duties (recvCell c j) 0 = {false} :=
  (duties_tc m c _).trans (if_pos (by have := j.isLt; show 1 ≤ j.val + 13 ∧ j.val + 13 < 25; omega))
theorem duties_later (g : GSem nD τ sig) : ∀ r, 1 ≤ r → (ringRd m).duties g r = ∅ :=
  fun r hr => if_neg fun h => by omega

theorem expect_bar : (ringRd m).expect (barCell c) 0 = 2 := by
  unfold Schedule.expect Schedule.amountOf
  rw [duties_bar]; rfl
theorem expect_send : (ringRd m).expect (sendCell c j) 0 = N := by
  unfold Schedule.expect Schedule.amountOf; rw [duties_send, Finset.sum_singleton]; rfl
theorem expect_recv : (ringRd m).expect (recvCell c j) 0 = N := by
  unfold Schedule.expect Schedule.amountOf; rw [duties_recv, Finset.sum_singleton]; rfl

theorem payload_bar (d : Bool) : (ringRd m).payload (barCell c) 0 d = barPay c d := rfl
theorem payload_send (d : Bool) : (ringRd m).payload (sendCell c j) 0 d = heldSome c sM (piece j) := dmaPay_send m c j
theorem payload_recv (d : Bool) : (ringRd m).payload (recvCell c j) 0 d = held c vM (piece j) (recvV m c j) := dmaPay_recv m c j

/-- What a wait for a whole round hands over. -/
theorem rest_bar : bigSep ((ringRd m).duties (barCell c) 0 \ ∅) (fun d => (ringRd m).payload (barCell c) 0 d)
    = iprop(barPay c true ∗ barPay c false) := by
  rw [Finset.sdiff_empty, duties_bar, bigSep_univ_eq_bigSepL [true, false] (by decide) (by decide), bigSepL_cons_cons, bigSepL_singleton]
  rfl
theorem rest_send : bigSep ((ringRd m).duties (sendCell c j) 0 \ ∅) (fun d => (ringRd m).payload (sendCell c j) 0 d)
    = heldSome c sM (piece j) := by
  rw [Finset.sdiff_empty, duties_send, bigSep_singleton, payload_send]
theorem rest_recv : bigSep ((ringRd m).duties (recvCell c j) 0 \ ∅) (fun d => (ringRd m).payload (recvCell c j) 0 d)
    = held c vM (piece j) (recvV m c j) := by
  rw [Finset.sdiff_empty, duties_recv, bigSep_singleton, payload_recv]

end Sched

/-! ## What each core owes; the levels -/

/-- The credits device `c` still owes for the transfers `l`, in their order. -/
def Os (c : Dev nD) : List (Fin 12) → CellTallies nD τ sig Unit
  | [] => 0
  | j :: l => Os c l + tallyAt (recvCell (dst c j) j) () N

/-- The order of the transfers. -/
abbrev order : List (Fin 12) := [0, 6, 1, 7, 2, 8, 3, 9, 4, 10, 5, 11]

def O₁ (c : Dev nD) : CellTallies nD τ sig Unit := Os c order + tallyAt (barCell (rgt c)) () 1
/-- At launch: the twelve transfers' credits and a unit on each neighbour's barrier (the left one's is paid first). -/
def O₀ (c : Dev nD) : CellTallies nD τ sig Unit := O₁ c + tallyAt (barCell (lft c)) () 1

/-- A receive cell's level: the slots 0 and 3 are waited for while the last transfers are still owed. -/
def lvj (j : ℕ) : ℕ := if j / 2 % 3 = 0 then 2 else 3
def lvs : SemLoc sig → ℕ
  | .reg _ => 1
  | .dma q => if 13 ≤ q.val ∧ q.val < 25 then lvj (q.val - 13) else 0
def L (g : GSem nD τ sig) : Finset Unit := if g.1.2 = .tc then {()} else ∅
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl
theorem lvs_recv (j : Fin 12) : lvs (.dma (recvS j)) = lvj j.val := by revert j; decide

theorem Os_pos {c : Dev nD} {g : GSem nD τ sig} {u : Unit} : ∀ {l : List (Fin 12)}, 0 < Os c l g u → ∃ j ∈ l, g = recvCell (dst c j) j
  | [], h => absurd h (Nat.lt_irrefl 0)
  | j :: l, h => by
    unfold Os at h
    rw [Pi.add_apply, Finsupp.add_apply, tallyAt_apply] at h
    by_cases hg : g = recvCell (dst c j) j ∧ u = ()
    · exact ⟨j, List.mem_cons_self, hg.1⟩
    · rw [if_neg hg, Nat.add_zero] at h
      obtain ⟨i, hi, e⟩ := Os_pos h
      exact ⟨i, List.mem_cons_of_mem _ hi, e⟩

theorem O₀_pos {c : Dev nD} {g : GSem nD τ sig} {u : Unit} (h : 0 < O₀ c g u) :
    (∃ j, g = recvCell (dst c j) j) ∨ g = barCell (rgt c) ∨ g = barCell (lft c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  obtain ⟨j, -, e⟩ := Os_pos h
  exact hn.1 ⟨j, e⟩

omit [FloatOps F] in
/-- A core owing the transfers `l` may wait for a cell at a level below all of theirs. -/
theorem mayWait_Os (c : Dev nD) (sm : SemLoc sig) (l : List (Fin 12)) (h : ∀ j ∈ l, lvs sm < lvj j.val) :
    (levAts L lv : sProp 𝕄) ⊢ MayWait (c : Thread nD τ) sm () (Os c l) :=
  MayOwe.of_cut (L := L) (lev := lv) (lvs sm) (fun p hp => by rw [Finset.mem_singleton.mp hp, L_tc]; exact Finset.mem_singleton_self _)
    (fun g u hg => by obtain ⟨j, -, rfl⟩ := Os_pos hg; exact Finset.mem_singleton_self _)
    (fun p hp => by rw [Finset.mem_singleton.mp hp]; exact le_rfl)
    (fun g u hg => by
      obtain ⟨j, hj, rfl⟩ := Os_pos hg
      show lvs sm < lvs (.dma (recvS j)); rw [lvs_recv]; exact h j hj)

omit [FloatOps F] in
/-- The result's staging semaphore is at level 0: it may be waited for whatever is owed. -/
theorem mayWait_stage (c : Dev nD) (q : DmaSem sig) (hq : lvs (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by rw [Finset.mem_singleton.mp hp]; exact le_of_eq hq)
      (fun g u hg => by
        rcases O₀_pos hg with ⟨j, rfl⟩ | rfl | rfl
        · show 0 < lvs (.dma (recvS j)); rw [lvs_recv]; unfold lvj; split <;> decide
        · exact Nat.one_pos
        · exact Nat.one_pos)
  · rw [MayWait_zero]; iintro -; iempintro

/-! ## The records every core may consult -/

/-- The cells' invariants under the names `K`, that every cell has reached round 0, and the levels. -/
def recs (K : Dev nD × Fin 25 → ℕ) : sProp 𝕄 :=
  iprop((bigSep Finset.univ fun ck : Dev nD × Fin 25 => cellInv ER (ringRd m) (K ck) (kcell ck))
    ∗ (bigSep Finset.univ fun ck : Dev nD × Fin 25 => reached ER (kcell ck) 0) ∗ levAts L lv)

instance recs_persistent (K : Dev nD × Fin 25 → ℕ) : BI.Persistent (recs m K) := by unfold recs; infer_instance

theorem inv_at (K : Dev nD × Fin 25 → ℕ) (ck : Dev nD × Fin 25) : recs m K ⊢ cellInv ER (ringRd m) (K ck) (kcell ck) := by
  unfold recs; iintro ⟨H, -⟩
  iapply (show (bigSep Finset.univ fun ck : Dev nD × Fin 25 => (cellInv ER (ringRd m) (K ck) (kcell ck) : sProp 𝕄)) ⊢ _ from
    bigSep_elim (Finset.mem_univ ck)); iexact H
theorem reached_at (K : Dev nD × Fin 25 → ℕ) (ck : Dev nD × Fin 25) : recs m K ⊢ reached ER (kcell ck) 0 := by
  unfold recs; iintro ⟨-, H, -⟩
  iapply (show (bigSep Finset.univ fun ck : Dev nD × Fin 25 => (reached ER (kcell ck) 0 : sProp 𝕄)) ⊢ _ from
    bigSep_elim (Finset.mem_univ ck)); iexact H
theorem lev_at (K : Dev nD × Fin 25 → ℕ) : recs m K ⊢ levAts L lv := by
  unfold recs; iintro ⟨-, -, H⟩; iexact H

/-! ## What a core holds of a transfer -/

/-- What device `c` holds of its own transfer `j` before it issues it: the two duties' tokens, its position at the send cell; -/
def toSend (c : Dev nD) (j : Fin 12) : sProp 𝕄 :=
  iprop(dutyTok ER (sendCell c j) 0 false ∗ dutyTok ER (recvCell (dst c j) j) 0 false ∗ atPos ER (sendCell c j) 0 ∅ 0)
/-- after: the send cell's credit and its position there. -/
def inSend (c : Dev nD) (j : Fin 12) : sProp 𝕄 :=
  iprop(cred (tallyAt (sendCell c j) () N) ∗ atPos ER (sendCell c j) 0 ∅ 0)
/-- What it holds of the transfer `j` to come in. -/
def toRecv (c : Dev nD) (j : Fin 12) : sProp 𝕄 :=
  iprop(cred (tallyAt (recvCell c j) () N) ∗ atPos ER (recvCell c j) 0 ∅ 0)
/-- What it holds of its barrier: its position, the right to pay each neighbour's unit, the two units' credit. -/
def toBar (c : Dev nD) : sProp 𝕄 :=
  iprop(atPos ER (barCell c) 0 ∅ 0 ∗ dutyTok ER (barCell (lft c)) 0 true ∗ dutyTok ER (barCell (rgt c)) 0 false
    ∗ cred (tallyAt (barCell c) () 2))

/-- The core owes `O`, whatever it has waited for. -/
def owed (c : Dev nD) (O : CellTallies nD τ sig Unit) : sProp 𝕄 := iprop(∃ W, owes (c : Thread nD τ) O W)

end Cert.RingProof

end
-- ==== Proof.Ghost.lean ====
/-
The launch of the ring's protocol: the ghost state minted for the cells, the semaphores put under their invariants, the
  tokens dealt to the devices that pay with them, and the credit every device starts with.
-/
module

public import proofs.«01_k».proof.Proof.Protocol

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens minted at launch -/

theorem csem_injective : Function.Injective csem := by decide
theorem kcell_injective : Function.Injective (kcell : Dev nD × Fin 25 → GSem nD τ sig) := fun ⟨c, k⟩ ⟨d, l⟩ h => by
  have h1 : c = d := congrArg (fun g : GSem nD τ sig => g.1.1) h
  have h2 : csem k = csem l := congrArg Prod.snd h
  rw [h1, csem_injective h2]

def ringCells : Finset (GSem nD τ sig) := Finset.univ.map ⟨kcell, kcell_injective⟩

/-- A device's own cells' duty tokens: `false` of every cell, and `true` of the barrier. -/
abbrev tokOf : (Dev nD × Fin 25) ⊕ Dev nD → GSem nD τ sig × ℕ × Bool
  | .inl ck => (kcell ck, 0, false)
  | .inr c => (barCell c, 0, true)
theorem tokOf_injective : Function.Injective tokOf
  | .inl a, .inl b, h => congrArg Sum.inl (kcell_injective (congrArg Prod.fst h))
  | .inl a, .inr b, h => absurd (congrArg (fun x : GSem nD τ sig × ℕ × Bool => x.2.2) h) Bool.false_ne_true
  | .inr a, .inl b, h => absurd (congrArg (fun x : GSem nD τ sig × ℕ × Bool => x.2.2) h.symm) Bool.false_ne_true
  | .inr a, .inr b, h => congrArg Sum.inr (congrArg (fun x : GSem nD τ sig × ℕ × Bool => x.1.1.1) h)
def falseToks : Finset (GSem nD τ sig × ℕ × Bool) := Finset.univ.map ⟨fun ck => tokOf (.inl ck), fun a b h => Sum.inl.inj (tokOf_injective h)⟩
def trueToks : Finset (GSem nD τ sig × ℕ × Bool) := Finset.univ.map ⟨fun c => tokOf (.inr c), fun a b h => Sum.inr.inj (tokOf_injective h)⟩
theorem toks_disjoint : Disjoint falseToks trueToks := by
  rw [Finset.disjoint_left]; unfold falseToks trueToks
  intro x hx hy
  obtain ⟨a, -, rfl⟩ := Finset.mem_map.mp hx
  obtain ⟨b, -, h⟩ := Finset.mem_map.mp hy
  exact Sum.inr_ne_inl (tokOf_injective h)
def ringToks : Finset (GSem nD τ sig × ℕ × Bool) := falseToks ∪ trueToks

def u₀ : UU :=
  (initOf (Pipeline.cells cfgs cellOf_inj) (Pipeline.launchToks cfgs cellOf_inj), (initOf ringCells ringToks, 1))

/-- The duty tokens of device `c`'s own cells; -/
def toks (c : Dev nD) : sProp 𝕄 :=
  iprop((bigSep Finset.univ fun k : Fin 25 => dutyTok ER (kcell (c, k)) 0 false) ∗ dutyTok ER (barCell c) 0 true)

/-- its share of the launch element. -/
def G (c : Dev nD) : sProp 𝕄 :=
  iprop((bigSep Finset.univ fun k : Fin 25 => roundState ER (ringRd m) (kcell (c, k)) 0)
    ∗ (bigSep Finset.univ fun k : Fin 25 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks
    rw [BI.bigSep_union toks_disjoint, bigSep_sep']
    unfold falseToks trueToks
    rw [bigSep_map, bigSep_map, bigSep_univ_prod]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr Htok

/-! ## The semaphores: the kernel's own are the transfers' and the two local ones, the barrier is not its own -/

abbrev osem (k : Fin 26) : SemLoc sig := .dma ⟨k.val + 1, by have := k.isLt; show k.val + 1 < 27; omega⟩
theorem ownSemFacts : Pipeline.OwnSemFacts cfg0.spec osem := by decide

section Split
variable {M : Type} [URA M]

/-- Twenty-five by their kind. -/
theorem sep_cells (Φ : Fin 25 → sProp M) : bigSep Finset.univ Φ
    = iprop(Φ 0 ∗ (bigSep Finset.univ fun j => Φ (sendIx j)) ∗ (bigSep Finset.univ fun j => Φ (recvIx j))) := by
  rw [show (Finset.univ : Finset (Fin 25)) = {0} ∪ (Finset.univ.map ⟨sendIx, by decide⟩ ∪ Finset.univ.map ⟨recvIx, by decide⟩) from by decide,
    BI.bigSep_union (by decide), BI.bigSep_union (by decide), bigSep_singleton, bigSep_map, bigSep_map]
  rfl
/-- Twenty-six: the first twenty-four by their kind, and the last two. -/
theorem sep_own (Φ : Fin 26 → sProp M) : bigSep Finset.univ Φ
    = iprop((bigSep Finset.univ fun j : Fin 12 => Φ ⟨j.val, by omega⟩) ∗ (bigSep Finset.univ fun j : Fin 12 => Φ ⟨j.val + 12, by omega⟩)
        ∗ Φ 24 ∗ Φ 25) := by
  rw [show (Finset.univ : Finset (Fin 26)) = Finset.univ.map ⟨fun j : Fin 12 => (⟨j.val, by omega⟩ : Fin 26), by decide⟩
      ∪ (Finset.univ.map ⟨fun j : Fin 12 => (⟨j.val + 12, by omega⟩ : Fin 26), by decide⟩ ∪ ({24} ∪ {25})) from by decide,
    BI.bigSep_union (by decide), BI.bigSep_union (by decide), BI.bigSep_union (by decide), bigSep_singleton, bigSep_singleton, bigSep_map, bigSep_map]
  rfl
end Split

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ (bigSep Finset.univ fun j => semVal (recvCell c j) 0)
        ∗ semVal ((c : Thread nD τ), .dma adma) 0 ∗ semVal ((c : Thread nD τ), .dma bdma) 0) := by
  unfold Pipeline.ownSems0; rw [sep_own]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The two local transfers' semaphores at zero. -/
def idles (c : Dev nD) : sProp 𝕄 := iprop(semVal ((c : Thread nD τ), .dma adma) 0 ∗ semVal ((c : Thread nD τ), .dma bdma) 0)

omit [FloatOps F] in
theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 25 => semVal (kcell (c, k)) 0) ∗ idles (F := F) c) := by
  rw [ownSems0_eq, unscopedSems0_eq, sep_cells]; unfold idles
  iintro ⟨⟨HS, HV, HA, HB⟩, HR⟩
  iframe HS HV HA HB HR

/-! ## The invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ idles c) := by
  have hinv : iprop((bigSep Finset.univ fun k : Fin 25 => semVal (kcell (c, k)) 0) ∗ bigSep Finset.univ fun k : Fin 25 => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold G
  iintro ⟨Hos, Hus, Hst, Hat, Htok⟩
  ihave ⟨Hv, Hid⟩ := (sems0_split (F := F) c) $$ [Hos Hus]
  · iframe Hos Hus
  imod hinv $$ [Hv Hst] with Hinv
  · iframe Hv Hst
  imodintro
  iframe Hinv Hat Htok Hid

/-- The part of the records the launch makes: the invariants and the marks. -/
def marks (K : Dev nD × Fin 25 → ℕ) : sProp 𝕄 :=
  iprop((bigSep Finset.univ fun ck : Dev nD × Fin 25 => cellInv ER (ringRd m) (K ck) (kcell ck))
    ∗ bigSep Finset.univ fun ck : Dev nD × Fin 25 => reached ER (kcell ck) 0)
instance marks_persistent (K : Dev nD × Fin 25 → ℕ) : BI.Persistent (marks m K) := by unfold marks; infer_instance

/-- The tokens of the duties device `c` pays. -/
def payToks (c : Dev nD) : sProp 𝕄 :=
  iprop(dutyTok ER (barCell (lft c)) 0 true ∗ dutyTok ER (barCell (rgt c)) 0 false
    ∗ (bigSep Finset.univ fun j => dutyTok ER (sendCell c j) 0 false) ∗ (bigSep Finset.univ fun j => dutyTok ER (recvCell (dst c j) j) 0 false))

/-- What stays with device `c`. -/
def own (c : Dev nD) : sProp 𝕄 :=
  iprop((bigSep Finset.univ fun k : Fin 25 => atPos ER (kcell (c, k)) 0 ∅ 0) ∗ payToks c ∗ idles c)

def G' (c : Dev nD) : sProp 𝕄 := iprop(∃ K, marks m K ∗ own c)

/-- One device to the right; a piece at the device it goes to. -/
def ring : Dev nD ≃ Dev nD := ⟨rgt, lft, lft_rgt, rgt_lft⟩
def hop : Dev nD × Fin 12 ≃ Dev nD × Fin 12 :=
  ⟨fun p => (dst p.1 p.2, p.2), fun p => (src p.1 p.2, p.2), fun p => by simp only [src_dst], fun p => by simp only [dst_src]⟩

omit [FloatOps F] in
theorem toks_around : (bigSep Finset.univ fun c : Dev nD => (toks c : sProp 𝕄)) ⊢ bigSep Finset.univ fun c : Dev nD => payToks c := by
  have hop_eq : (bigSep Finset.univ fun c : Dev nD => bigSep Finset.univ fun j : Fin 12 => (dutyTok ER (kcell (c, recvIx j)) 0 false : sProp 𝕄))
      = bigSep Finset.univ fun c : Dev nD => bigSep Finset.univ fun j : Fin 12 => dutyTok ER (recvCell (dst c j) j) 0 false := by
    rw [← bigSep_univ_prod (fun p : Dev nD × Fin 12 => (dutyTok ER (kcell (p.1, recvIx p.2)) 0 false : sProp 𝕄)),
      bigSep_univ_equiv hop, bigSep_univ_prod]; rfl
  unfold toks payToks
  simp only [sep_cells, bigSep_sep']
  rw [bigSep_univ_equiv ring.symm (fun c : Dev nD => (dutyTok ER (barCell c) 0 true : sProp 𝕄)),
    bigSep_univ_equiv ring (fun c : Dev nD => (dutyTok ER (kcell (c, 0)) 0 false : sProp 𝕄))]
  iintro ⟨⟨H1, H2, H3⟩, H4⟩
  ihave H3 := (Entails.of_eq hop_eq) $$ H3
  isplitl [H4]; · iexact H4
  isplitl [H1]; · iexact H1
  isplitl [H2]; · iexact H2
  iexact H3

omit [FloatOps F] in
/-- A persistent resource is there for every index. -/
theorem sep_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ idles c) : sProp 𝕄)
      ⊢ bigSep Finset.univ (G' m) := by
  have hown : (bigSep Finset.univ fun c : Dev nD => (own c : sProp 𝕄))
      = iprop((bigSep Finset.univ fun c : Dev nD => bigSep Finset.univ fun k : Fin 25 => atPos ER (kcell (c, k)) 0 ∅ 0)
        ∗ (bigSep Finset.univ fun c : Dev nD => payToks c) ∗ bigSep Finset.univ fun c : Dev nD => idles c) := by
    unfold own; rw [bigSep_sep', bigSep_sep']
  rw [bigSep_sep', bigSep_sep', bigSep_sep', ← bigSep_univ_prod (fun ck : Dev nD × Fin 25 => iprop(∃ κ : ℕ, cellInv ER (ringRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok, Hid⟩
  ihave HK := (BI.bigSep_exists_pi Finset.univ (fun (ck : Dev nD × Fin 25) (κ : ℕ) => (cellInv ER (ringRd m) κ (kcell ck) : sProp 𝕄))) $$ HI
  icases HK with ⟨%K, #HI⟩
  ihave Htk := (toks_around (F := F)) $$ Htok
  iapply (sep_each (R := marks m K) (Φ := fun c => own c) fun c _ => by unfold G'; iintro H; iexists K; iexact H)
  isplitr
  · unfold marks; isplitl; · iexact HI
    iexact HR
  · iapply (Entails.of_eq hown.symm)
    iframe Hat Htk Hid

/-- The global step of the launch: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b : Dev nD} {i j : Fin 12} : Iff (recvCell a i = recvCell b j) (a = b ∧ i = j) :=
  ⟨fun h => by
    have h' := kcell_injective (a₁ := (a, recvIx i)) (a₂ := (b, recvIx j)) h
    have h2 : i.val + 13 = j.val + 13 := congrArg (fun x : Dev nD × Fin 25 => x.2.val) h'
    exact ⟨congrArg Prod.fst h', Fin.ext (by omega)⟩, fun h => by rw [h.1, h.2]⟩
theorem recv_ne_bar {a b : Dev nD} {j : Fin 12} : recvCell a j ≠ barCell b := fun h => by
  have := congrArg (fun g : GSem nD τ sig => g.2) h; cases this

theorem Os_bar (d c : Dev nD) : ∀ l, Os d l (barCell c) () = 0
  | [] => rfl
  | j :: l => by
    unfold Os
    rw [Pi.add_apply, Finsupp.add_apply, Os_bar d c l, tallyAt_apply, if_neg fun h => recv_ne_bar h.1.symm]
theorem Os_recv (d c : Dev nD) (j : Fin 12) : ∀ l, Os d l (recvCell c j) () = l.count j * if d = src c j then N else 0
  | [] => by rw [List.count_nil, Nat.zero_mul]; rfl
  | i :: l => by
    unfold Os
    rw [Pi.add_apply, Finsupp.add_apply, Os_recv d c j l, tallyAt_apply, List.count_cons, Nat.add_mul]
    congr 1
    by_cases h : recvCell c j = recvCell (dst d i) i
    · obtain ⟨h1, rfl⟩ := recv_eq_iff.mp h
      have e : d = src c j := by rw [h1, src_dst]
      rw [if_pos ⟨h, rfl⟩, if_pos (beq_self_eq_true j), Nat.one_mul, if_pos e]
    · rw [if_neg fun h' => h h'.1]
      by_cases e : i = j
      · subst e
        have e : ¬ d = src c i := fun h' => h (by rw [h', dst_src])
        rw [if_neg e, Nat.mul_zero]
      · rw [if_neg (by simpa using e), Nat.zero_mul]

theorem owed_bar (d c : Dev nD) : O₀ d (barCell c) () = (if d = lft c then 1 else 0) + (if d = rgt c then 1 else 0) := by
  have h (a b : Dev nD) : ((barCell a = barCell b ∧ () = ()) ↔ a = b) := ⟨fun h => bar_eq_iff.mp h.1, fun h => ⟨by rw [h], rfl⟩⟩
  unfold O₀ O₁
  rw [Pi.add_apply, Finsupp.add_apply, Pi.add_apply, Finsupp.add_apply, Os_bar, tallyAt_apply, tallyAt_apply, Nat.zero_add]
  congr 1
  · exact if_congr ((h _ _).trans ⟨fun h => by rw [h, lft_rgt], fun h => by rw [h, rgt_lft]⟩) rfl rfl
  · exact if_congr ((h _ _).trans ⟨fun h => by rw [h, rgt_lft], fun h => by rw [h, lft_rgt]⟩) rfl rfl
theorem count_order (j : Fin 12) : order.count j = 1 := by revert j; decide
theorem owed_recv (d c : Dev nD) (j : Fin 12) : O₀ d (recvCell c j) () = if d = src c j then N else 0 := by
  unfold O₀ O₁
  have h (b : Dev nD) : ¬ (recvCell c j = barCell b ∧ () = ()) := fun h => recv_ne_bar h.1
  rw [Pi.add_apply, Finsupp.add_apply, Pi.add_apply, Finsupp.add_apply, Os_recv, tallyAt_apply, tallyAt_apply,
    if_neg (h _), if_neg (h _), Nat.add_zero,
    count_order, Nat.one_mul]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]
theorem launch_recv (c : Dev nD) (j : Fin 12) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (src c j) fun _ => N, if_pos (Finset.mem_univ _)]

omit [FloatOps F] in
theorem creds (c : Dev nD) :
    (Pipeline.launchCred O₀ c : sProp 𝕄)
      ⊢ iprop(cred (tallyAt (barCell c) () 2) ∗ bigSep Finset.univ fun j => cred (tallyAt (recvCell c j) () N)) := by
  unfold Pipeline.launchCred
  refine (BI.bigSep_subset (t := {SemLoc.reg barS} ∪ Finset.univ.map ⟨fun j : Fin 12 => SemLoc.dma (recvS j), by decide⟩) (Finset.subset_univ _)).trans ?_
  rw [BI.bigSep_union (by decide), bigSep_singleton, bigSep_map]
  rw [launch_bar]
  exact sep_mono_right (Entails.of_eq (bigSep_congr fun j _ => congrArg cred (launch_recv c j)))

end Cert.RingProof

end
-- ==== Proof.Steps.lean ====
/-
  One rule for each kind of effect the kernel's body has: loads and stores of a rectangle held at a value, the local
  transfers that stage blocks of `A` and `B`, the barrier, the transfers to the neighbours and the waits for them.
-/
module

public import proofs.«01_k».proof.Proof.Protocol

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

/-- The programs the kernel's core runs. -/
abbrev TcProg (F : FTy → Type) [FloatOps F] (α : Type) : Type 1 := Prog (TpuEff nD τ sig (Elt F) Λ₀ .tc) α

variable {F : FTy → Type} [FloatOps F]

local notation "𝕄" => MT nD τ sig Unit (Elt F) ℕ UU ℕ

variable (m : (ℓ : Loc nD τ sig) → Buf (Elt F) ℓ)

/-- Core `c` runs `p` safely and ends in `Q`. -/
abbrev run (c : Dev nD) {α : Type} (p : TcProg F α) (Q : α → sProp 𝕄) : sProp 𝕄 :=
  wp frame (wpE (defs₀ (F := F)) 𝒱₀ (c : Thread nD τ) none) Set.univ p Q

/-! ## Loads and stores -/

section Rects
variable {cs : CoreSpace} {s : Shape} {e : EltTy} (c : Dev nD) (M : Memref sig .tc cs s e) (r : Rect s)

theorem step_load {α : Type} {Q : α → sProp 𝕄} {w : r.shape.Idx → Elt F e} {hl : M.view.LoadsAt r.toLoadRect} {k : (r.shape.Idx → Elt F e) → TcProg F α} :
    held c M r w ⊢ iprop((held c M r w -∗ run c (k w) Q) -∗ run c (.op (.load M r.toLoadRect hl) k) Q) := by
  unfold held
  iintro ⟨%f, %hf, H⟩ Hk
  iapply (wp_load_rect 𝒱₀ (c : Thread nD τ) none Set.univ (m := M) (r := r) (Finset.Subset.refl _)) $$ H
  iintro H
  rw [hf]
  iapply Hk
  iexists f
  isplitr; · ipureintro; exact hf
  iexact H

theorem step_loadSome {α : Type} {Q : α → sProp 𝕄} {hl : M.view.LoadsAt r.toLoadRect} {k : (r.shape.Idx → Elt F e) → TcProg F α} :
    heldSome c M r ⊢ iprop((∀ w, heldSome c M r -∗ run c (k w) Q) -∗ run c (.op (.load M r.toLoadRect hl) k) Q) := by
  iintro H Hk
  ihave H := some_held $$ H
  icases H with ⟨%w, H⟩
  iapply (step_load c M r) $$ H
  iintro H
  iapply Hk $$ %w
  iapply held_some $$ H

theorem step_store {α : Type} {Q : α → sProp 𝕄} {w : r.shape.Idx → Elt F e} {hx : (M.access r).Stores Finset.univ} {hm : (Finset.univ : Finset r.shape.Idx) = Finset.univ ∨ ∀ a, r.stride a = 1}
    {k : PUnit → TcProg F α} :
    heldSome c M r ⊢ iprop((held c M r w -∗ run c (k ⟨⟩) Q) -∗ run c (.op (.store M r w Finset.univ hx hm) k) Q) := by
  unfold held heldSome
  iintro ⟨%f, H⟩ Hk
  iapply (wp_store 𝒱₀ (c : Thread nD τ) none Set.univ (m := M) (r := r) (Mk := Finset.univ)
    (by rw [View.setOn_univ])) $$ H
  iintro H
  iapply Hk
  iexists _
  isplitr; · ipureintro; exact View.read_write_univ f w
  iexact H

theorem step_restore {α : Type} {Q : α → sProp 𝕄} {w₀ w : r.shape.Idx → Elt F e} {hx : (M.access r).Stores Finset.univ} {hm : (Finset.univ : Finset r.shape.Idx) = Finset.univ ∨ ∀ a, r.stride a = 1}
    {k : PUnit → TcProg F α} :
    held c M r w₀ ⊢ iprop((held c M r w -∗ run c (k ⟨⟩) Q) -∗ run c (.op (.store M r w Finset.univ hx hm) k) Q) :=
  held_some.trans (step_store c M r)

end Rects

/-! ## The staged blocks -/

/-- Device `c`'s blocks of `A` and of `B`, as at launch. -/
def aPts (c : Dev nD) : sProp 𝕄 := (((c : Thread nD τ).loc main_arg0) ↦{fullShare} m ((c : Thread nD τ).loc main_arg0))
def bPts (c : Dev nD) : sProp 𝕄 := (((c : Thread nD τ).loc main_arg1) ↦{fullShare} m ((c : Thread nD τ).loc main_arg1))
/-- The two staging buffers at a value, and at some value. -/
def stA (c : Dev nD) (w : Vec F S768x1536 .f32) : sProp 𝕄 := (((c : Thread nD τ).loc cc0_scratch2) ↦{fullShare} w)
def stB (c : Dev nD) (w : Vec F S1536x768 .f32) : sProp 𝕄 := (((c : Thread nD τ).loc cc0_scratch4) ↦{fullShare} w)

/-- A local transfer under way on semaphore `sm`, whose end makes `D`. -/
def infl (c : Dev nD) (sm : DmaSem sig) (n : ℕ) (D : sProp 𝕄) : sProp 𝕄 :=
  iprop(∃ P R : sProp 𝕄, Flight EC (c : Thread nD τ) (.dma sm) () n P ∗ R ∗ ⌜iprop(P ∗ R) ⊢ D⌝)

theorem step_dma {α : Type} {Q : α → sProp 𝕄} (c : Dev nD) {s : Shape} {e : EltTy} {S : Memref sig .tc .hbm s e} {T : Memref sig .tc .vmem s e} {sm : DmaSem sig}
    {hsrc : S.view.WordExact} {hdst : T.view.WordExact} {hsem : DmaTarget.Typed (nD := nD) .hbm (.dma sm) (DmaTarget.here (p := .tc) T)}
    {k : PUnit → TcProg F α} (f : Buf (Elt F) (S.view.loc (c : Thread nD τ))) (n : ℕ) (hn : T.view.amount (.dma sm) = n) (hn0 : 0 < n) (D : sProp 𝕄)
    (hD : ∀ fd : Buf (Elt F) (T.view.loc (c : Thread nD τ)),
      iprop((T.view.loc (c : Thread nD τ) ↦{fullShare} (T.view.write (Elt F) fd (S.view.read (Elt F) f) Finset.univ))
        ∗ (S.view.loc (c : Thread nD τ) ↦{fullShare} f)) ⊢ D) :
    iprop((S.view.loc (c : Thread nD τ) ↦{fullShare} f) ∗ (∃ fd : Buf (Elt F) (T.view.loc (c : Thread nD τ)), (T.view.loc (c : Thread nD τ) ↦{fullShare} fd))
        ∗ semVal ((c : Thread nD τ), .dma sm) 0)
      ⊢ iprop((infl c sm n D -∗ run c (k ⟨⟩) Q) -∗ run c (.op (.enqueueDma S (.here T) (.dma sm) hsrc hdst hsem) k) Q) := by
  iintro ⟨HS, ⟨%fd, HT⟩, Hz⟩ Hk
  ihave H2 := (pointsTo_split_subset (Finset.subset_univ S.view.set)).1 $$ HS
  icases H2 with ⟨HS, HR⟩
  iapply (Transfers.wp_dmaLocal EC 𝒱₀ (c : Thread nD τ) none () n hn hn0 (Finset.subset_univ T.view.set)) $$ [HS HT Hz]
  · isplitl [HS]; · iexact HS
    isplitl [HT]; · iexact HT
    iexact Hz
  iintro HF
  iapply Hk
  unfold infl
  iexists _, _
  isplitl [HF]; · iexact HF
  isplitl [HR]; · iexact HR
  ipureintro
  refine (show _ ⊢ _ from ?_).trans (hD fd)
  iintro ⟨⟨HT, HS⟩, HR⟩
  isplitl [HT]; · iexact HT
  iapply (pointsTo_split_subset (Finset.subset_univ S.view.set)).2
  isplitl [HS]; · iexact HS
  iexact HR

theorem step_waitLocal {α : Type} {Q : α → sProp 𝕄} (c : Dev nD) (l : List (Fin 12)) {s : Shape} {e : EltTy} {S : Memref sig .tc .hbm s e} {T : Memref sig .tc .vmem s e} {sm : DmaSem sig}
    {hsrc : S.view.WordExact} {hdst : T.view.WordExact} {k : PUnit → TcProg F α} {n : ℕ} (hn : T.view.dmaCredit = n) {D : sProp 𝕄}
    (hl : ∀ j : Fin 12, lvs (.dma sm) < lvj j.val) (K : Dev nD × Fin 25 → ℕ) :
    iprop(recs m K ∗ infl c sm n D ∗ owed c (Os c l))
      ⊢ iprop(((D ∗ semVal ((c : Thread nD τ), .dma sm) 0 ∗ owed c (Os c l)) -∗ run c (k ⟨⟩) Q)
        -∗ run c (.op (.waitDma2 sm S T hsrc hdst) k) Q) := by
  unfold infl owed
  iintro ⟨#HR, ⟨%P, %R, HF, HR', %hD⟩, ⟨%W, HO⟩⟩ Hk
  iapply (Transfers.wp_waitLocalO EC 𝒱₀ (c : Thread nD τ) none () hn) $$ [HF HO]
  · isplitl [HF]; · iexact HF
    isplitl [HO]; · iexact HO
    iapply (mayWait_Os c (.dma sm) l (fun j _ => hl j))
    iapply (lev_at m K); iexact HR
  iintro ⟨HP, Hz, HO⟩
  iapply Hk
  isplitl [HP HR']
  · iapply hD
    isplitl [HP] <;> iassumption
  isplitl [Hz]; · iexact Hz
  iexists _; iexact HO

abbrev NA : ℕ := asM.view.dmaCredit
abbrev NB : ℕ := bsM.view.dmaCredit
theorem NA_pos : 0 < NA := View.dmaCredit_pos _ (by decide)
theorem NB_pos : 0 < NB := View.dmaCredit_pos _ (by decide)

theorem lvs_adma (j : Fin 12) : lvs (.dma adma) < lvj j.val := by revert j; decide
theorem lvs_bdma (j : Fin 12) : lvs (.dma bdma) < lvj j.val := by revert j; decide

/-- The row block `d` of `A`, the column quarter `q` of `B`, under way to their staging buffers. -/
abbrev inflA (c d : Dev nD) : sProp 𝕄 := infl c adma NA iprop(aPts m c ∗ stA c (AR m c d))
abbrev inflB (c : Dev nD) (q : Fin 4) : sProp 𝕄 := infl c bdma NB iprop(bPts m c ∗ stB c (BQ m c q))

/-- The block of `A`, its staging buffer and semaphore, no transfer under way; the same of `B`. -/
def idleA (c : Dev nD) : sProp 𝕄 := iprop(aPts m c ∗ (∃ w, stA c w) ∗ semVal ((c : Thread nD τ), .dma adma) 0)
def idleB (c : Dev nD) : sProp 𝕄 := iprop(bPts m c ∗ (∃ w, stB c w) ∗ semVal ((c : Thread nD τ), .dma bdma) 0)

theorem idleA_intro (c : Dev nD) {w : Vec F S768x1536 .f32} :
    iprop(aPts m c ∗ stA c w ∗ semVal ((c : Thread nD τ), .dma adma) 0) ⊢ idleA m c := by
  unfold idleA; iintro ⟨H1, H2, H3⟩
  isplitl [H1]; · iexact H1
  isplitl [H2]; · iexists w; iexact H2
  iexact H3
theorem idleB_intro (c : Dev nD) {w : Vec F S1536x768 .f32} :
    iprop(bPts m c ∗ stB c w ∗ semVal ((c : Thread nD τ), .dma bdma) 0) ⊢ idleB m c := by
  unfold idleB; iintro ⟨H1, H2, H3⟩
  isplitl [H1]; · iexact H1
  isplitl [H2]; · iexists w; iexact H2
  iexact H3

theorem landA (c d : Dev nD) (fd : Buf (Elt F) ((c : Thread nD τ).loc cc0_scratch2)) :
    iprop((((c : Thread nD τ).loc cc0_scratch2) ↦{fullShare} (asM.view.write (Elt F) fd (AR m c d) Finset.univ))
        ∗ (((c : Thread nD τ).loc main_arg0) ↦{fullShare} m ((c : Thread nD τ).loc main_arg0)))
      ⊢ (iprop((((c : Thread nD τ).loc main_arg0) ↦{fullShare} m ((c : Thread nD τ).loc main_arg0))
        ∗ (((c : Thread nD τ).loc cc0_scratch2) ↦{fullShare} AR m c d)) : sProp 𝕄) := by
  rw [show asM.view.write (Elt F) fd (AR m c d) Finset.univ = AR m c d from View.write_whole_univ _ _ _]
  exact sep_comm.1
theorem landB (c : Dev nD) (q : Fin 4) (fd : Buf (Elt F) ((c : Thread nD τ).loc cc0_scratch4)) :
    iprop((((c : Thread nD τ).loc cc0_scratch4) ↦{fullShare} (bsM.view.write (Elt F) fd (BQ m c q) Finset.univ))
        ∗ (((c : Thread nD τ).loc main_arg1) ↦{fullShare} m ((c : Thread nD τ).loc main_arg1)))
      ⊢ (iprop((((c : Thread nD τ).loc main_arg1) ↦{fullShare} m ((c : Thread nD τ).loc main_arg1))
        ∗ (((c : Thread nD τ).loc cc0_scratch4) ↦{fullShare} BQ m c q)) : sProp 𝕄) := by
  rw [show bsM.view.write (Elt F) fd (BQ m c q) Finset.univ = BQ m c q from View.write_whole_univ _ _ _]
  exact sep_comm.1

theorem step_dmaA {α : Type} {Q : α → sProp 𝕄} (c d : Dev nD) {off : Fin 2 → ℕ} (hoff : off = ![768 * d.val, 0]) {inb : ∀ a, off a + S768x1536.size a ≤ S3072x1536.size a}
    {hs : ∀ a, (Rect.unit (s := S3072x1536) off S768x1536.size inb).stride a = 1}
    {hsrc : (aM.slice (Rect.unit (s := S3072x1536) off S768x1536.size inb) hs).view.WordExact} {hdst : asM.view.WordExact}
    {hsem : DmaTarget.Typed (nD := nD) .hbm (.dma adma) (DmaTarget.here (p := .tc) asM)} {k : PUnit → TcProg F α} :
    idleA m c
      ⊢ iprop((inflA m c d -∗ run c (k ⟨⟩) Q)
        -∗ run c (.op (.enqueueDma (aM.slice (Rect.unit (s := S3072x1536) off S768x1536.size inb) hs) (.here asM) (.dma adma) hsrc hdst hsem) k) Q) := by
  subst hoff
  unfold inflA idleA aPts stA
  exact step_dma c (S := aM.slice (arow d) hs) (T := asM) (m ((c : Thread nD τ).loc main_arg0)) NA rfl NA_pos _ (landA m c d)

theorem step_dmaB {α : Type} {Q : α → sProp 𝕄} (c : Dev nD) (q : Fin 4) {inb : ∀ a, (![0, 768 * q.val] : Fin 2 → ℕ) a + S1536x768.size a ≤ S1536x3072.size a}
    {hs : ∀ a, (Rect.unit (s := S1536x3072) ![0, 768 * q.val] S1536x768.size inb).stride a = 1}
    {hsrc : (bM.slice (Rect.unit (s := S1536x3072) ![0, 768 * q.val] S1536x768.size inb) hs).view.WordExact} {hdst : bsM.view.WordExact}
    {hsem : DmaTarget.Typed (nD := nD) .hbm (.dma bdma) (DmaTarget.here (p := .tc) bsM)} {k : PUnit → TcProg F α} :
    idleB m c
      ⊢ iprop((inflB m c q -∗ run c (k ⟨⟩) Q)
        -∗ run c (.op (.enqueueDma (bM.slice (Rect.unit (s := S1536x3072) ![0, 768 * q.val] S1536x768.size inb) hs) (.here bsM) (.dma bdma) hsrc hdst hsem) k) Q) := by
  unfold inflB idleB bPts stB
  exact step_dma c (S := bM.slice (bcol q) hs) (T := bsM) (m ((c : Thread nD τ).loc main_arg1)) NB rfl NB_pos _ (landB m c q)

theorem step_waitA {α : Type} {Q : α → sProp 𝕄} (K : Dev nD × Fin 25 → ℕ) (c d : Dev nD) (l : List (Fin 12)) {S : Memref sig .tc .hbm S768x1536 .f32}
    {hsrc : S.view.WordExact} {hdst : asM.view.WordExact} {k : PUnit → TcProg F α} :
    iprop(recs m K ∗ inflA m c d ∗ owed c (Os c l))
      ⊢ iprop((((aPts m c ∗ stA c (AR m c d)) ∗ semVal ((c : Thread nD τ), .dma adma) 0 ∗ owed c (Os c l)) -∗ run c (k ⟨⟩) Q)
        -∗ run c (.op (.waitDma2 adma S asM hsrc hdst) k) Q) :=
  step_waitLocal m c l rfl lvs_adma K

theorem step_waitB {α : Type} {Q : α → sProp 𝕄} (K : Dev nD × Fin 25 → ℕ) (c : Dev nD) (q : Fin 4) (l : List (Fin 12)) {S : Memref sig .tc .hbm S1536x768 .f32}
    {hsrc : S.view.WordExact} {hdst : bsM.view.WordExact} {k : PUnit → TcProg F α} :
    iprop(recs m K ∗ inflB m c q ∗ owed c (Os c l))
      ⊢ iprop((((bPts m c ∗ stB c (BQ m c q)) ∗ semVal ((c : Thread nD τ), .dma bdma) 0 ∗ owed c (Os c l)) -∗ run c (k ⟨⟩) Q)
        -∗ run c (.op (.waitDma2 bdma S bsM hsrc hdst) k) Q) :=
  step_waitLocal m c l rfl lvs_bdma K

theorem hz : (![0, 0] : Fin 2 → Nat) = fun _ => 0 := funext fun a => by fin_cases a <;> rfl

theorem step_loadA {α : Type} {Q : α → sProp 𝕄} (c : Dev nD) {w : Vec F S768x1536 .f32} {inb : ∀ a, (![0, 0] : Fin 2 → ℕ) a + S768x1536.size a ≤ S768x1536.size a}
    {hl : asM.view.LoadsAt (Rect.unit (s := S768x1536) ![0, 0] S768x1536.size inb).toLoadRect} {k : Vec F S768x1536 .f32 → TcProg F α} :
    stA c w ⊢ iprop((stA c w -∗ run c (k w) Q) -∗ run c (.op (.load asM (Rect.unit (s := S768x1536) ![0, 0] S768x1536.size inb).toLoadRect hl) k) Q) := by
  unfold stA
  iintro H Hk
  iapply (wp_load 𝒱₀ (c : Thread nD τ) none Set.univ (m := asM) (Finset.subset_univ _)) $$ H
  iintro H
  rw [show asM.view.readAt (Elt F) (Rect.unit (s := S768x1536) ![0, 0] S768x1536.size inb).toLoadRect w = w from
    Memref.readAt_unit_zero (Elt F) cc0_scratch2 hz _ w]
  iapply Hk; iexact H

theorem step_loadB {α : Type} {Q : α → sProp 𝕄} (c : Dev nD) {w : Vec F S1536x768 .f32} {inb : ∀ a, (![0, 0] : Fin 2 → ℕ) a + S1536x768.size a ≤ S1536x768.size a}
    {hl : bsM.view.LoadsAt (Rect.unit (s := S1536x768) ![0, 0] S1536x768.size inb).toLoadRect} {k : Vec F S1536x768 .f32 → TcProg F α} :
    stB c w ⊢ iprop((stB c w -∗ run c (k w) Q) -∗ run c (.op (.load bsM (Rect.unit (s := S1536x768) ![0, 0] S1536x768.size inb).toLoadRect hl) k) Q) := by
  unfold stB
  iintro H Hk
  iapply (wp_load 𝒱₀ (c : Thread nD τ) none Set.univ (m := bsM) (Finset.subset_univ _)) $$ H
  iintro H
  rw [show bsM.view.readAt (Elt F) (Rect.unit (s := S1536x768) ![0, 0] S1536x768.size inb).toLoadRect w = w from
    Memref.readAt_unit_zero (Elt F) cc0_scratch4 hz _ w]
  iapply Hk; iexact H

/-! ## The barrier -/

section Ring
variable (K : Dev nD × Fin 25 → ℕ) (c : Dev nD)

/-- What each neighbour's unit hands over, told from the core that pays it. -/
theorem barPay_lft : (barPay (lft c) true : sProp 𝕄)
    = iprop(heldSome c vM (piece 0) ∗ heldSome c vM (piece 1) ∗ heldSome c vM (piece 2) ∗ heldSome c vM (piece 3) ∗ heldSome c vM (piece 4) ∗ heldSome c vM (piece 5)) := by
  show iprop(heldSome (rgt (lft c)) vM (piece 0) ∗ heldSome (rgt (lft c)) vM (piece 1) ∗ heldSome (rgt (lft c)) vM (piece 2)
    ∗ heldSome (rgt (lft c)) vM (piece 3) ∗ heldSome (rgt (lft c)) vM (piece 4) ∗ heldSome (rgt (lft c)) vM (piece 5)) = _
  rw [rgt_lft]
theorem barPay_rgt : (barPay (rgt c) false : sProp 𝕄)
    = iprop(heldSome c vM (piece 6) ∗ heldSome c vM (piece 7) ∗ heldSome c vM (piece 8) ∗ heldSome c vM (piece 9) ∗ heldSome c vM (piece 10) ∗ heldSome c vM (piece 11)) := by
  show iprop(heldSome (lft (rgt c)) vM (piece 6) ∗ heldSome (lft (rgt c)) vM (piece 7) ∗ heldSome (lft (rgt c)) vM (piece 8)
    ∗ heldSome (lft (rgt c)) vM (piece 9) ∗ heldSome (lft (rgt c)) vM (piece 10) ∗ heldSome (lft (rgt c)) vM (piece 11)) = _
  rw [lft_rgt]

/-- A unit on a neighbour's barrier. -/
theorem step_signal {α : Type} {Q : α → sProp 𝕄} (d : Bool) {n n' : Dev nD} (hn : n = n') {sm : Sem sig} (hsm : sm = barS) {a : ℤ} (ha : a = (1 : ℕ)) (O : CellTallies nD τ sig Unit)
    {k : PUnit → TcProg F α} :
    iprop(recs m K ∗ dutyTok ER (barCell n') 0 d ∗ barPay n' d ∗ owed c (O + tallyAt (barCell n') () 1))
      ⊢ iprop((owed c O -∗ run c (k ⟨⟩) Q) -∗ run c (.op (.semSignal (Dev.tc n : Thread nD τ) sm a) k) Q) := by
  subst hn hsm ha
  unfold owed
  iintro ⟨#HR, Ht, Hp, ⟨%W, HO⟩⟩ Hk
  iapply (Rounds.wp_signal 𝒱₀ ER (ringRd m) (c : Thread nD τ) none (dst := (n : Thread nD τ)) (κ := K (n, 0))
      (d := d) (by rw [duties_bar]; exact Finset.mem_univ _) rfl () O rfl) $$ [HO Ht Hp]
  · isplitr; · iapply (inv_at m K (n, 0)); iexact HR
    isplitl [HO]; · iexact HO
    isplitl [Ht]; · iexact Ht
    isplitl [Hp]; · iapply (Entails.of_eq (payload_bar m n d).symm); iexact Hp
    iapply (reached_at m K (n, 0)); iexact HR
  iintro HO
  iapply Hk
  iexists _; iexact HO

theorem lv_bar (j : Fin 12) : lvs (.reg barS) < lvj j.val := by revert j; decide

/-- The wait for both neighbours' units: the pieces its transfers write, on both, and the barrier's counter. -/
theorem step_barrier {α : Type} {Q : α → sProp 𝕄} {sm : Sem sig} (hsm : sm = barS) {a : ℤ} (ha : a = (2 : ℕ)) (l : List (Fin 12)) {k : PUnit → TcProg F α} :
    iprop(recs m K ∗ atPos ER (barCell c) 0 ∅ 0 ∗ cred (tallyAt (barCell c) () 2) ∗ owed c (Os c l))
      ⊢ iprop(((barPay c true ∗ barPay c false ∗ semVal (barCell c) 0 ∗ owed c (Os c l)) -∗ run c (k ⟨⟩) Q)
        -∗ run c (.op (.semWait sm a) k) Q) := by
  subst hsm ha
  unfold owed
  iintro ⟨#HR, Hat, Hc, ⟨%W, HO⟩⟩ Hk
  iapply (Rounds.wp_wait_rest_token 𝒱₀ ER (ringRd m) (c : Thread nD τ) none (κ := K (c, 0))
      (wpE_semWait_eq 𝒱₀ (c : Thread nD τ) none Set.univ) (Set.mem_univ _) () (O := Os c l) (W := W) (R := 0) (m := 0) (T := ∅)
      (by rw [expect_bar])) $$ [Hc HO Hat]
  · isplitr; · iapply (inv_at m K (c, 0)); iexact HR
    isplitl [Hc]; · iexact Hc
    isplitl [HO]; · iexact HO
    isplitr; · iapply (mayWait_Os c (.reg barS) l (fun j _ => lv_bar j)); iapply (lev_at m K); iexact HR
    iexact Hat
  iintro ⟨HO, Hat, -, Hp⟩
  ihave Hp := (Entails.of_eq (rest_bar m c)) $$ Hp
  icases Hp with ⟨Hp1, Hp2⟩
  imod (Rounds.cell_close ER (ringRd m) (Set.mem_univ (K (c, 0))) (fun h => h) (R := 0 + 1) (duties_later m (barCell c))) $$ [Hat] with Hz
  · isplitr; · iapply (inv_at m K (c, 0)); iexact HR
    iexact Hat
  iapply Hk
  isplitl [Hp1]; · iexact Hp1
  isplitl [Hp2]; · iexact Hp2
  isplitl [Hz]; · iexact Hz
  iexists _; iexact HO

/-! ## The transfers to the neighbours -/

/-- Transfer `j`: the piece of the send buffer holding `sentV`, the room for it on the neighbour. -/
theorem step_send {α : Type} {Q : α → sProp 𝕄} (j : Fin 12) (l : List (Fin 12)) {n : Dev nD} (hn : n = dst c j) {sS sR : DmaSem sig} (hsS : sS = sendS j) (hsR : sR = recvS j)
    {S : Memref sig .tc .vmem S768x768 .bf16} (hS : S = sPc j) {D : Memref sig (Dev.tc n : Thread nD τ).2.kind .vmem S768x768 .bf16} (hD : D = vPc j)
    {hsc : D.view.ref.isScScratch = false} {hsrc : S.view.WordExact} {hdst : D.view.WordExact}
    {hsem : DmaTarget.Typed .vmem (.dma sR) (.remote (Dev.tc n : Thread nD τ) D (.dma sS) hsc)} {k : PUnit → TcProg F α} :
    iprop(recs m K ∗ held c sM (piece j) (sentV m c j) ∗ room c j ∗ toSend c j ∗ owed c (Os c (j :: l)))
      ⊢ iprop(((inSend c j ∗ owed c (Os c l)) -∗ run c (k ⟨⟩) Q)
        -∗ run c (.op (.enqueueDma S (.remote (Dev.tc n : Thread nD τ) D (.dma sS) hsc) (.dma sR) hsrc hdst hsem) k) Q) := by
  subst hn hsS hsR hS hD
  unfold held room heldSome toSend owed
  iintro ⟨#HR, ⟨%fs, %hfs, Hs⟩, ⟨%fd, Hd⟩, ⟨Ht1, Ht2, Hat⟩, ⟨%W, HO⟩⟩ Hk
  iapply (Rounds.wp_send_pointsTo 𝒱₀ ER (ringRd m) (c : Thread nD τ) none (κ₁ := K (c, sendIx j)) (κ₂ := K (dst c j, recvIx j))
    (r₁ := 0) (r₂ := 0) (d₁ := false) (d₂ := false) (c' := (dst c j : Thread nD τ)) (src := sPc j) (dst := vPc j) (fs := fs) (fd := fd)
    (by rw [duties_send]; exact Finset.mem_singleton_self _) (by rw [duties_recv]; exact Finset.mem_singleton_self _)
    () () N (amount_vPc j _) rfl rfl (Os c l) rfl (W := W)
    (by
      rw [payload_send]; unfold heldSome
      iintro H; iexists fs
      rw [View.set_reshape]; iexact H)
    (by
      rw [payload_recv]; unfold held
      iintro H; iexists _
      isplitr
      · ipureintro
        show (vM.access (piece j)).read (Elt F) ((vPc j).view.write (Elt F) fd ((sPc j).view.read (Elt F) fs) Finset.univ) = _
        rw [landed_eq, hfs]; unfold recvV; rw [src_dst]
      rw [View.set_reshape]; iexact H)) $$ [Hs Hd HO Ht1 Ht2]
  · isplitr; · iapply (inv_at m K (c, sendIx j)); iexact HR
    isplitr; · iapply (inv_at m K (dst c j, recvIx j)); iexact HR
    isplitl [Hs]; · rw [View.set_reshape]; iexact Hs
    isplitl [Hd]; · rw [View.set_reshape]; iexact Hd
    isplitl [HO]; · iexact HO
    isplitl [Ht1]; · iexact Ht1
    isplitr; · iapply (reached_at m K (c, sendIx j)); iexact HR
    isplitl [Ht2]; · iexact Ht2
    iapply (reached_at m K (dst c j, recvIx j)); iexact HR
  iintro ⟨Hc, HO⟩
  iapply Hk
  unfold inSend
  isplitl [Hc Hat]
  · isplitl [Hc] <;> iassumption
  iexists _; iexact HO

/-- The wait for the piece `j` to come in: it holds what its sender sent. -/
theorem step_rwait {α : Type} {Q : α → sProp 𝕄} (j : Fin 12) (l : List (Fin 12)) (hl : ∀ i ∈ l, lvj j.val < lvj i.val) {sR : DmaSem sig} (hsR : sR = recvS j)
    {S D : Memref sig .tc .vmem S768x768 .bf16} (hD : D.view.dmaCredit = N) {hsrc : S.view.WordExact} {hdst : D.view.WordExact} {k : PUnit → TcProg F α} :
    iprop(recs m K ∗ toRecv c j ∗ owed c (Os c l))
      ⊢ iprop(((semVal (recvCell c j) 0 ∗ held c vM (piece j) (recvV m c j) ∗ owed c (Os c l)) -∗ run c (k ⟨⟩) Q)
        -∗ run c (.op (.waitDma2 sR S D hsrc hdst) k) Q) := by
  subst hsR
  unfold owed toRecv
  iintro ⟨#HR, ⟨Hc, Hat⟩, ⟨%W, HO⟩⟩ Hk
  iapply (Rounds.wp_wait_rest_token 𝒱₀ ER (ringRd m) (c : Thread nD τ) none (k' := D.view.dmaCredit) (κ := K (c, recvIx j))
      (wpE_waitDma2_eq 𝒱₀ (c : Thread nD τ) none Set.univ) (Set.mem_univ _) () (O := Os c l) (W := W) (R := 0) (m := 0) (T := ∅)
      (by rw [Nat.zero_add, expect_recv])) $$ [Hc HO Hat]
  · isplitr; · iapply (inv_at m K (c, recvIx j)); iexact HR
    isplitl [Hc]; · rw [hD]; iexact Hc
    isplitl [HO]; · iexact HO
    isplitr
    · iapply (mayWait_Os c (.dma (recvS j)) l (fun i hi => by rw [lvs_recv]; exact hl i hi)); iapply (lev_at m K); iexact HR
    iexact Hat
  iintro ⟨HO, Hat, -, Hp⟩
  ihave Hp := (Entails.of_eq (rest_recv m c j)) $$ Hp
  imod (Rounds.cell_close ER (ringRd m) (Set.mem_univ (K (c, recvIx j))) (fun h => h) (R := 0 + 1) (duties_later m (recvCell c j))) $$ [Hat] with Hz
  · isplitr; · iapply (inv_at m K (c, recvIx j)); iexact HR
    iexact Hat
  iapply Hk
  isplitl [Hz]; · iexact Hz
  isplitl [Hp]; · iexact Hp
  iexists _; iexact HO

/-- The wait for transfer `j` to have left, nothing owed: its piece of the send buffer back. -/
theorem step_swait {α : Type} {Q : α → sProp 𝕄} (j : Fin 12) {sS : DmaSem sig} (hsS : sS = sendS j)
    {S D : Memref sig .tc .vmem S768x768 .bf16} (hD : D.view.dmaCredit = N) {hsrc : S.view.WordExact} {hdst : D.view.WordExact} {k : PUnit → TcProg F α} :
    iprop(recs m K ∗ inSend c j ∗ owed c (Os c []))
      ⊢ iprop(((semVal (sendCell c j) 0 ∗ heldSome c sM (piece j) ∗ owed c (Os c [])) -∗ run c (k ⟨⟩) Q)
        -∗ run c (.op (.waitDma2 sS S D hsrc hdst) k) Q) := by
  subst hsS
  unfold owed inSend
  iintro ⟨#HR, ⟨Hc, Hat⟩, ⟨%W, HO⟩⟩ Hk
  iapply (Rounds.wp_wait_rest_token 𝒱₀ ER (ringRd m) (c : Thread nD τ) none (k' := D.view.dmaCredit) (κ := K (c, sendIx j))
      (wpE_waitDma2_eq 𝒱₀ (c : Thread nD τ) none Set.univ) (Set.mem_univ _) () (O := Os c []) (W := W) (R := 0) (m := 0) (T := ∅)
      (by rw [Nat.zero_add, expect_send])) $$ [Hc HO Hat]
  · isplitr; · iapply (inv_at m K (c, sendIx j)); iexact HR
    isplitl [Hc]; · rw [hD]; iexact Hc
    isplitl [HO]; · iexact HO
    isplitr; · iapply (mayWait_Os c (.dma (sendS j)) [] (fun i hi => absurd hi List.not_mem_nil)); iapply (lev_at m K); iexact HR
    iexact Hat
  iintro ⟨HO, Hat, -, Hp⟩
  ihave Hp := (Entails.of_eq (rest_send m c j)) $$ Hp
  imod (Rounds.cell_close ER (ringRd m) (Set.mem_univ (K (c, sendIx j))) (fun h => h) (R := 0 + 1) (duties_later m (sendCell c j))) $$ [Hat] with Hz
  · isplitr; · iapply (inv_at m K (c, sendIx j)); iexact HR
    iexact Hat
  iapply Hk
  isplitl [Hz]; · iexact Hz
  isplitl [Hp]; · iexact Hp
  iexists _; iexact HO

end Ring

end Cert.RingProof

end
-- ==== Proof.Args.lean ====
/-
  The body's arguments, and rules for the runs of effects it repeats: a block staged and converted, a product made and
  stored, a piece that came in added to a product and passed on.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A part of the body at the kernel's buffers. -/
abbrev atArgs {X : Type 1} (p : (arg0 : Memref sig .tc .hbm S3072x1536 .f32) → arg0.IsWhole → (arg1 : Memref sig .tc .hbm S1536x3072 .f32) → arg1.IsWhole
    → (arg2 : Memref sig .tc .vmem S768x3072 .bf16) → arg2.IsWhole → (arg3 : Memref sig .tc .vmem S6x768x1536 .bf16) → arg3.IsWhole
    → (arg4 : Memref sig .tc .vmem S6x768x1536 .bf16) → arg4.IsWhole → (arg5 : Memref sig .tc .vmem S768x1536 .f32) → arg5.IsWhole
    → (arg6 : Memref sig .tc .vmem S2x768x1536 .bf16) → arg6.IsWhole → (arg7 : Memref sig .tc .vmem S1536x768 .f32) → arg7.IsWhole
    → (arg8 : Memref sig .tc .vmem S1536x3072 .bf16) → arg8.IsWhole → DmaSems sig S12 → DmaSems sig S12 → DmaSems sig S_ → DmaSems sig S_ → X) : X :=
  p aM (Memref.isWhole_whole _) bM (Memref.isWhole_whole _) oM (Memref.isWhole_whole _) sM (Memref.isWhole_whole _) vM (Memref.isWhole_whole _)
    asM (Memref.isWhole_whole _) a16M (Memref.isWhole_whole _) bsM (Memref.isWhole_whole _) b16M (Memref.isWhole_whole _)
    cc0_scratch6 cc0_scratch7 cc0_scratch8 cc0_scratch9

theorem step_ret {α : Type} (c : Dev nD) {Q : α → sProp 𝕄} {a : α} : Q a ⊢ run c (.ret a) Q := by
  unfold run; rw [wp_ret]; iintro H; imodintro; iexact H

section
variable (K : Dev nD × Fin 25 → ℕ) (c : Dev nD) {α : Type}

/-- Row block `d` of `A` comes in and is stored, converted, in slot `a`. -/
theorem step_stageA {Q : α → sProp 𝕄} (d : Dev nD) (a : Fin 2) (l : List (Fin 12)) {S : Memref sig .tc .hbm S768x1536 .f32} {hsrc : S.view.WordExact} {hdst : asM.view.WordExact}
    {inb : ∀ a, (![0, 0] : Fin 2 → ℕ) a + S768x1536.size a ≤ S768x1536.size a}
    {h1 : asM.view.LoadsAt (Rect.unit (s := S768x1536) ![0, 0] S768x1536.size inb).toLoadRect} {h2 : a16M.view.LoadsAt (a16 a).toLoadRect}
    {h3 : (a16M.access (a16 a)).Stores Finset.univ} {h4 : (Finset.univ : Finset (a16 a).shape.Idx) = Finset.univ ∨ ∀ i, (a16 a).stride i = 1}
    {f : Vec F S768x1536 .f32 → Vec F S1x768x1536 .bf16} (hf : f = k0_pay1) {k : PUnit → TcProg F α} :
    iprop(recs m K ∗ inflA m c d ∗ owed c (Os c l) ∗ heldSome c a16M (a16 a))
      ⊢ iprop(((idleA m c ∗ owed c (Os c l) ∗ held c a16M (a16 a) (A16 m c d)) -∗ run c (k ⟨⟩) Q)
        -∗ run c (.op (.waitDma2 adma S asM hsrc hdst) fun _ => .op (.load asM (Rect.unit (s := S768x1536) ![0, 0] S768x1536.size inb).toLoadRect h1) fun x =>
            .op (.load a16M (a16 a).toLoadRect h2) fun _ => .op (.store a16M (a16 a) (f x) Finset.univ h3 h4) k) Q) := by
  subst hf
  iintro ⟨#HR, HA, HO, Ha⟩ Hk
  iapply (step_waitA m K c d l) $$ [HA HO]
  · isplitr; · iexact HR
    isplitl [HA] <;> iassumption
  iintro ⟨⟨HA, Hs⟩, Hv, HO⟩
  iapply (step_loadA c) $$ Hs; iintro Hs
  iapply (step_loadSome c a16M (a16 a)) $$ Ha; iintro %_ Ha
  iapply (step_store c a16M (a16 a)) $$ Ha; iintro Ha
  iapply Hk
  isplitl [HA Hs Hv]
  · iapply (idleA_intro m c)
    isplitl [HA]; · iexact HA
    isplitl [Hs] <;> iassumption
  isplitl [HO]; · iexact HO
  unfold A16; iexact Ha

/-- Column quarter `q` of `B` comes in and is stored, converted. -/
theorem step_stageB {Q : α → sProp 𝕄} (q : Fin 4) (l : List (Fin 12)) {S : Memref sig .tc .hbm S1536x768 .f32} {hsrc : S.view.WordExact} {hdst : bsM.view.WordExact}
    {inb : ∀ a, (![0, 0] : Fin 2 → ℕ) a + S1536x768.size a ≤ S1536x768.size a}
    {h1 : bsM.view.LoadsAt (Rect.unit (s := S1536x768) ![0, 0] S1536x768.size inb).toLoadRect} {h2 : b16M.view.LoadsAt (bcol q).toLoadRect}
    {h3 : (b16M.access (bcol q)).Stores Finset.univ} {h4 : (Finset.univ : Finset (bcol q).shape.Idx) = Finset.univ ∨ ∀ i, (bcol q).stride i = 1}
    {f : Vec F S1536x768 .f32 → Vec F S1536x768 .bf16} (hf : f = k0_pay2) {k : PUnit → TcProg F α} :
    iprop(recs m K ∗ inflB m c q ∗ owed c (Os c l) ∗ heldSome c b16M (bcol q))
      ⊢ iprop(((idleB m c ∗ owed c (Os c l) ∗ held c b16M (bcol q) (B16 m c q)) -∗ run c (k ⟨⟩) Q)
        -∗ run c (.op (.waitDma2 bdma S bsM hsrc hdst) fun _ => .op (.load bsM (Rect.unit (s := S1536x768) ![0, 0] S1536x768.size inb).toLoadRect h1) fun x =>
            .op (.load b16M (bcol q).toLoadRect h2) fun _ => .op (.store b16M (bcol q) (f x) Finset.univ h3 h4) k) Q) := by
  subst hf
  iintro ⟨#HR, HB, HO, Hb⟩ Hk
  iapply (step_waitB m K c q l) $$ [HB HO]
  · isplitr; · iexact HR
    isplitl [HB] <;> iassumption
  iintro ⟨⟨HB, Hs⟩, Hv, HO⟩
  iapply (step_loadB c) $$ Hs; iintro Hs
  iapply (step_loadSome c b16M (bcol q)) $$ Hb; iintro %_ Hb
  iapply (step_store c b16M (bcol q)) $$ Hb; iintro Hb
  iapply Hk
  isplitl [HB Hs Hv]
  · iapply (idleB_intro m c)
    isplitl [HB]; · iexact HB
    isplitl [Hs] <;> iassumption
  isplitl [HO]; · iexact HO
  unfold B16; iexact Hb

/-- The product of a row block and a column quarter, stored as piece `j`. -/
theorem step_prod {Q : α → sProp 𝕄} (a : Fin 2) (q : Fin 4) (j : Fin 12) {A : Vec F S1x768x1536 .bf16} {B : Vec F S1536x768 .bf16}
    {h1 : a16M.view.LoadsAt (a16 a).toLoadRect} {h2 : b16M.view.LoadsAt (bcol q).toLoadRect} {h3 : sM.view.LoadsAt (piece j).toLoadRect}
    {h4 : (sM.access (piece j)).Stores Finset.univ} {h5 : (Finset.univ : Finset (piece j).shape.Idx) = Finset.univ ∨ ∀ i, (piece j).stride i = 1}
    {f : Vec F S1x768x1536 .bf16 → Vec F S1536x768 .bf16 → Vec F S1x768x768 .bf16} (hf : f = k0_pay3) {k : PUnit → TcProg F α} :
    iprop(held c a16M (a16 a) A ∗ held c b16M (bcol q) B ∗ heldSome c sM (piece j))
      ⊢ iprop(((held c a16M (a16 a) A ∗ held c b16M (bcol q) B ∗ held c sM (piece j) (k0_pay3 A B)) -∗ run c (k ⟨⟩) Q)
        -∗ run c (.op (.load a16M (a16 a).toLoadRect h1) fun x => .op (.load b16M (bcol q).toLoadRect h2) fun y =>
            .op (.load sM (piece j).toLoadRect h3) fun _ => .op (.store sM (piece j) (f x y) Finset.univ h4 h5) k) Q) := by
  subst hf
  iintro ⟨Ha, Hb, Hs⟩ Hk
  iapply (step_load c a16M (a16 a)) $$ Ha; iintro Ha
  iapply (step_load c b16M (bcol q)) $$ Hb; iintro Hb
  iapply (step_loadSome c sM (piece j)) $$ Hs; iintro %_ Hs
  iapply (step_store c sM (piece j)) $$ Hs; iintro Hs
  iapply Hk
  isplitl [Ha]; · iexact Ha
  isplitl [Hb] <;> iassumption

/-- Piece `i` comes in, is added to the product held as piece `j`, and the sum goes out. -/
theorem step_pass {Q : α → sProp 𝕄} (i j : Fin 12) (l : List (Fin 12)) (hl : ∀ i' ∈ j :: l, lvj i.val < lvj i'.val) {P : Vec F S1x768x768 .bf16}
    (hP : sentV m c j = k0_pay23 P (recvV m c i))
    {sR : DmaSem sig} (hsR : sR = recvS i) {S D : Memref sig .tc .vmem S768x768 .bf16} (hD : D.view.dmaCredit = N)
    {hsrc : S.view.WordExact} {hdst : D.view.WordExact}
    {h1 : sM.view.LoadsAt (piece j).toLoadRect} {h2 : vM.view.LoadsAt (piece i).toLoadRect} {h3 : sM.view.LoadsAt (piece j).toLoadRect}
    {h4 : (sM.access (piece j)).Stores Finset.univ} {h5 : (Finset.univ : Finset (piece j).shape.Idx) = Finset.univ ∨ ∀ i, (piece j).stride i = 1}
    {f : Vec F S1x768x768 .bf16 → Vec F S1x768x768 .bf16 → Vec F S1x768x768 .bf16} (hf : f = k0_pay23)
    {n : Dev nD} (hn : n = dst c j) {sS' sR' : DmaSem sig} (hsS' : sS' = sendS j) (hsR' : sR' = recvS j)
    {S' : Memref sig .tc .vmem S768x768 .bf16} (hS' : S' = sPc j) {D' : Memref sig (Dev.tc n : Thread nD τ).2.kind .vmem S768x768 .bf16} (hD' : D' = vPc j)
    {hsc : D'.view.ref.isScScratch = false} {hsrc' : S'.view.WordExact} {hdst' : D'.view.WordExact}
    {hsem : DmaTarget.Typed .vmem (.dma sR') (.remote (Dev.tc n : Thread nD τ) D' (.dma sS') hsc)} {k : PUnit → TcProg F α} :
    iprop(recs m K ∗ toRecv c i ∗ owed c (Os c (j :: l)) ∗ held c sM (piece j) P ∗ room c j ∗ toSend c j)
      ⊢ iprop(((semVal (recvCell c i) 0 ∗ held c vM (piece i) (recvV m c i) ∗ inSend c j ∗ owed c (Os c l)) -∗ run c (k ⟨⟩) Q)
        -∗ run c (.op (.waitDma2 sR S D hsrc hdst) fun _ => .op (.load sM (piece j).toLoadRect h1) fun x => .op (.load vM (piece i).toLoadRect h2) fun y =>
            .op (.load sM (piece j).toLoadRect h3) fun _ => .op (.store sM (piece j) (f x y) Finset.univ h4 h5) fun _ =>
            .op (.enqueueDma S' (.remote (Dev.tc n : Thread nD τ) D' (.dma sS') hsc) (.dma sR') hsrc' hdst' hsem) k) Q) := by
  subst hf
  iintro ⟨#HR, Hi, HO, Hs, Hm, Ht⟩ Hk
  iapply (step_rwait m K c i (j :: l) hl hsR hD) $$ [Hi HO]
  · isplitr; · iexact HR
    isplitl [Hi] <;> iassumption
  iintro ⟨Hz, Hv, HO⟩
  iapply (step_load c sM (piece j)) $$ Hs; iintro Hs
  iapply (step_load c vM (piece i)) $$ Hv; iintro Hv
  iapply (step_load c sM (piece j)) $$ Hs; iintro Hs
  iapply (step_restore c sM (piece j)) $$ Hs; iintro Hs
  rw [← hP]
  iapply (step_send m K c j l hn hsS' hsR' hS' hD') $$ [Hs Hm Ht HO]
  · isplitr; · iexact HR
    isplitl [Hs]; · iexact Hs
    isplitl [Hm]; · iexact Hm
    isplitl [Ht] <;> iassumption
  iintro ⟨Hc, HO⟩
  iapply Hk
  isplitl [Hz]; · iexact Hz
  isplitl [Hv]; · iexact Hv
  isplitl [Hc] <;> iassumption

end

end Cert.RingProof

end
-- ==== Proof.Part1.lean ====
/-
  The body's parts up to the second transfer: the barrier, the first row block of `A`, the column quarters of `B`.
-/
module

public import proofs.«01_k».proof.Proof.Args

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 25 → ℕ) (c : Dev nD)

theorem part1_run (Kt : (Σ' (d0 : Dev nD) (v2 : BitVec 32) (v13 : BitVec 32) (v24 : BitVec 32), BitVec 32) → sProp 𝕄) :
    iprop(∀ v2 v13 v24 v35, Kt ⟨c, v2, v13, v24, v35⟩) ⊢ run c (atArgs (k0_part1 (F := F))) Kt := by
  unfold run atArgs
  simp only [k0_part1_eq_skeleton]; unfold k0_part1_skel
  simp only [Prog.lift, Prog.bind_op, Prog.bind_ret, Prog.pure_eq_ret, wp_deviceId]
  iintro H
  rw [wp_ret]; imodintro
  iapply H

/-- The barrier; the row block for the device opposite and the first column quarter, converted. -/
theorem part2_run (v13 v24 v35 : BitVec 32) (Kt : PUnit → sProp 𝕄) :
    iprop(recs m K ∗ toBar c ∗ barPay (lft c) true ∗ barPay (rgt c) false ∗ owed c (O₀ c) ∗ idleA m c ∗ idleB m c
        ∗ heldSome c a16M (a16 0) ∗ heldSome c b16M (bcol 0)
        ∗ ((barPay c true ∗ barPay c false ∗ semVal (barCell c) 0 ∗ owed c (Os c order) ∗ inflA m c (rgt c) ∗ idleB m c
            ∗ held c a16M (a16 0) (A16 m c (opp c)) ∗ held c b16M (bcol 0) (B16 m c 0)) -∗ Kt ⟨⟩))
      ⊢ run c (atArgs (k0_part2 (F := F)) c v13 v24 v35) Kt := by
  unfold atArgs
  simp only [k0_part2_eq_skeleton]; unfold k0_part2_skel
  simp only [semSignalWord, semWaitWord, Prog.lift, Prog.bind_op, Prog.bind_ret, Prog.pure_eq_ret]
  unfold toBar O₀
  iintro ⟨#HR, ⟨Hat, Ht1, Ht2, Hc⟩, Hp1, Hp2, HO, HA, HB, Ha0, Hb0, Hk⟩
  iapply (step_signal m K c true (dev1_eq c) rfl (by decide) (O₁ c)) $$ [Ht1 Hp1 HO]
  · isplitr; · iexact HR
    isplitl [Ht1]; · iexact Ht1
    isplitl [Hp1] <;> iassumption
  iintro HO
  unfold O₁
  iapply (step_signal m K c false (dev2_eq c) rfl (by decide) (Os c order)) $$ [Ht2 Hp2 HO]
  · isplitr; · iexact HR
    isplitl [Ht2]; · iexact Ht2
    isplitl [Hp2] <;> iassumption
  iintro HO
  iapply (step_barrier m K c rfl (by decide) order) $$ [Hat Hc HO]
  · isplitr; · iexact HR
    isplitl [Hat]; · iexact Hat
    isplitl [Hc] <;> iassumption
  iintro ⟨Hp1, Hp2, Hz, HO⟩
  iapply (step_dmaA m c (opp c) (off_opp c)) $$ HA; iintro HA
  iapply (step_dmaB m c 0) $$ HB; iintro HB
  iapply (step_stageA m K c (opp c) 0 order rfl) $$ [HA HO Ha0]
  · isplitr; · iexact HR
    isplitl [HA]; · iexact HA
    isplitl [HO] <;> iassumption
  iintro ⟨HA, HO, Ha0⟩
  iapply (step_dmaA m c (rgt c) (off_rgt c)) $$ HA; iintro HA
  iapply (step_stageB m K c 0 order rfl) $$ [HB HO Hb0]
  · isplitr; · iexact HR
    isplitl [HB]; · iexact HB
    isplitl [HO] <;> iassumption
  iintro ⟨HB, HO, Hb0⟩
  iapply (step_ret c)
  iapply Hk
  isplitl [Hp1]; · iexact Hp1
  isplitl [Hp2]; · iexact Hp2
  isplitl [Hz]; · iexact Hz
  isplitl [HO]; · iexact HO
  isplitl [HA]; · iexact HA
  isplitl [HB]; · iexact HB
  isplitl [Ha0] <;> iassumption

/-- Transfer 0, and the third column quarter. -/
theorem part3_run (v13 : BitVec 32) (Kt : PUnit → sProp 𝕄) :
    iprop(recs m K ∗ owed c (Os c order) ∗ idleB m c
        ∗ held c a16M (a16 0) (A16 m c (opp c)) ∗ held c b16M (bcol 0) (B16 m c 0) ∗ heldSome c b16M (bcol 2)
        ∗ heldSome c sM (piece 0) ∗ room c 0 ∗ toSend c 0
        ∗ ((owed c (Os c [6, 1, 7, 2, 8, 3, 9, 4, 10, 5, 11]) ∗ inflB m c 1
            ∗ held c a16M (a16 0) (A16 m c (opp c)) ∗ held c b16M (bcol 0) (B16 m c 0) ∗ held c b16M (bcol 2) (B16 m c 2) ∗ inSend c 0) -∗ Kt ⟨⟩))
      ⊢ run c (atArgs (k0_part3 (F := F)) c v13) Kt := by
  unfold atArgs
  simp only [k0_part3_eq_skeleton]; unfold k0_part3_skel
  simp only [Prog.lift, Prog.bind_op, Prog.bind_ret, Prog.pure_eq_ret]
  iintro ⟨#HR, HO, HB, Ha0, Hb0, Hb2, Hs, Hm, Ht, Hk⟩
  iapply (step_dmaB m c 2) $$ HB; iintro HB
  iapply (step_prod c 0 0 0 rfl) $$ [Ha0 Hb0 Hs]
  · isplitl [Ha0]; · iexact Ha0
    isplitl [Hb0] <;> iassumption
  iintro ⟨Ha0, Hb0, Hs⟩
  iapply (step_send m K c 0 [6, 1, 7, 2, 8, 3, 9, 4, 10, 5, 11] (dev3_eq c) rfl rfl rfl rfl) $$ [Hs Hm Ht HO]
  · isplitr; · iexact HR
    isplitl [Hs]; · iexact Hs
    isplitl [Hm]; · iexact Hm
    isplitl [Ht] <;> iassumption
  iintro ⟨Hc, HO⟩
  iapply (step_stageB m K c 2 _ rfl) $$ [HB HO Hb2]
  · isplitr; · iexact HR
    isplitl [HB]; · iexact HB
    isplitl [HO] <;> iassumption
  iintro ⟨HB, HO, Hb2⟩
  iapply (step_dmaB m c 1) $$ HB; iintro HB
  iapply (step_ret c)
  iapply Hk
  isplitl [HO]; · iexact HO
  isplitl [HB]; · iexact HB
  isplitl [Ha0]; · iexact Ha0
  isplitl [Hb0]; · iexact Hb0
  isplitl [Hb2] <;> iassumption

/-- Transfer 6, and the second column quarter. -/
theorem part4_run (v24 : BitVec 32) (Kt : Vec F S1x768x1536 .bf16 → sProp 𝕄) :
    iprop(recs m K ∗ owed c (Os c [6, 1, 7, 2, 8, 3, 9, 4, 10, 5, 11]) ∗ inflB m c 1
        ∗ held c a16M (a16 0) (A16 m c (opp c)) ∗ held c b16M (bcol 2) (B16 m c 2) ∗ heldSome c b16M (bcol 1)
        ∗ heldSome c sM (piece 6) ∗ room c 6 ∗ toSend c 6
        ∗ ((owed c (Os c [1, 7, 2, 8, 3, 9, 4, 10, 5, 11]) ∗ inflB m c 3
            ∗ held c a16M (a16 0) (A16 m c (opp c)) ∗ held c b16M (bcol 2) (B16 m c 2) ∗ held c b16M (bcol 1) (B16 m c 1) ∗ inSend c 6)
          -∗ Kt (A16 m c (opp c))))
      ⊢ run c (atArgs (k0_part4 (F := F)) c v24) Kt := by
  unfold atArgs
  simp only [k0_part4_eq_skeleton]; unfold k0_part4_skel
  simp only [Prog.lift, Prog.bind_op, Prog.bind_ret, Prog.pure_eq_ret]
  iintro ⟨#HR, HO, HB, Ha0, Hb2, Hb1, Hs, Hm, Ht, Hk⟩
  iapply (step_prod c 0 2 6 rfl) $$ [Ha0 Hb2 Hs]
  · isplitl [Ha0]; · iexact Ha0
    isplitl [Hb2] <;> iassumption
  iintro ⟨Ha0, Hb2, Hs⟩
  iapply (step_send m K c 6 [1, 7, 2, 8, 3, 9, 4, 10, 5, 11] (dev4_eq c) rfl rfl rfl rfl) $$ [Hs Hm Ht HO]
  · isplitr; · iexact HR
    isplitl [Hs]; · iexact Hs
    isplitl [Hm]; · iexact Hm
    isplitl [Ht] <;> iassumption
  iintro ⟨Hc, HO⟩
  iapply (step_stageB m K c 1 _ rfl) $$ [HB HO Hb1]
  · isplitr; · iexact HR
    isplitl [HB]; · iexact HB
    isplitl [HO] <;> iassumption
  iintro ⟨HB, HO, Hb1⟩
  iapply (step_dmaB m c 3) $$ HB; iintro HB
  iapply (step_load c a16M (a16 0)) $$ Ha0; iintro Ha0
  iapply (step_ret c)
  iapply Hk
  isplitl [HO]; · iexact HO
  isplitl [HB]; · iexact HB
  isplitl [Ha0]; · iexact Ha0
  isplitl [Hb2]; · iexact Hb2
  isplitl [Hb1] <;> iassumption

end Cert.RingProof

end
-- ==== Proof.Part2.lean ====
/-
  The body's parts with the transfers 1, 7, 2, 8, 3 and 9: the products for the device opposite and for the neighbours.
-/
module

public import proofs.«01_k».proof.Proof.Args

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 25 → ℕ) (c : Dev nD)

/-- Transfer 1, the last column quarter, and the right neighbour's row block read. -/
theorem part5_run (v13 : BitVec 32) (Kt : (Σ' (v135 : FVec F S768x1536 .bf16), Vec F S1x768x1536 .bf16) → sProp 𝕄) :
    iprop(recs m K ∗ owed c (Os c [1, 7, 2, 8, 3, 9, 4, 10, 5, 11]) ∗ inflB m c 3 ∗ inflA m c (rgt c)
        ∗ held c b16M (bcol 1) (B16 m c 1) ∗ heldSome c b16M (bcol 3) ∗ heldSome c a16M (a16 1)
        ∗ heldSome c sM (piece 1) ∗ room c 1 ∗ toSend c 1
        ∗ (∀ v136, (owed c (Os c [7, 2, 8, 3, 9, 4, 10, 5, 11]) ∗ idleB m c ∗ idleA m c
            ∗ held c b16M (bcol 1) (B16 m c 1) ∗ held c b16M (bcol 3) (B16 m c 3) ∗ heldSome c a16M (a16 1) ∗ inSend c 1)
          -∗ Kt ⟨k0_pay9 (AR m c (rgt c)), v136⟩))
      ⊢ run c (atArgs (k0_part5 (F := F)) c v13 (A16 m c (opp c))) Kt := by
  unfold atArgs
  simp only [k0_part5_eq_skeleton]; unfold k0_part5_skel
  simp only [Prog.lift, Prog.bind_op, Prog.bind_ret, Prog.pure_eq_ret]
  iintro ⟨#HR, HO, HB, HA, Hb1, Hb3, Ha1, Hs, Hm, Ht, Hk⟩
  iapply (step_load c b16M (bcol 1)) $$ Hb1; iintro Hb1
  iapply (step_loadSome c sM (piece 1)) $$ Hs; iintro %_ Hs
  iapply (step_store c sM (piece 1)) $$ Hs; iintro Hs
  iapply (step_send m K c 1 [7, 2, 8, 3, 9, 4, 10, 5, 11] (dev5_eq c) rfl rfl rfl rfl) $$ [Hs Hm Ht HO]
  · isplitr; · iexact HR
    isplitl [Hs]; · iexact Hs
    isplitl [Hm]; · iexact Hm
    isplitl [Ht] <;> iassumption
  iintro ⟨Hc, HO⟩
  iapply (step_stageB m K c 3 _ rfl) $$ [HB HO Hb3]
  · isplitr; · iexact HR
    isplitl [HB]; · iexact HB
    isplitl [HO] <;> iassumption
  iintro ⟨HB, HO, Hb3⟩
  iapply (step_waitA m K c (rgt c) _) $$ [HA HO]
  · isplitr; · iexact HR
    isplitl [HA] <;> iassumption
  iintro ⟨⟨HA, Hst⟩, Hv, HO⟩
  iapply (step_loadA c) $$ Hst; iintro Hst
  iapply (step_loadSome c a16M (a16 1)) $$ Ha1; iintro %w Ha1
  iapply (step_ret c)
  iapply Hk $$ %w
  isplitl [HO]; · iexact HO
  isplitl [HB]; · iexact HB
  isplitl [HA Hst Hv]
  · iapply (idleA_intro m c)
    isplitl [HA]; · iexact HA
    isplitl [Hst] <;> iassumption
  isplitl [Hb1]; · iexact Hb1
  isplitl [Hb3]; · iexact Hb3
  isplitl [Ha1] <;> iassumption

/-- The right neighbour's row block converted; transfer 7. -/
theorem part6_run (v24 : BitVec 32) (v136 : Vec F S1x768x1536 .bf16) (Kt : FVec F S768x768 .bf16 → sProp 𝕄) :
    iprop(recs m K ∗ owed c (Os c [7, 2, 8, 3, 9, 4, 10, 5, 11]) ∗ idleA m c
        ∗ held c a16M (a16 0) (A16 m c (opp c)) ∗ heldSome c a16M (a16 1) ∗ held c b16M (bcol 2) (B16 m c 2) ∗ held c b16M (bcol 3) (B16 m c 3)
        ∗ heldSome c sM (piece 7) ∗ room c 7 ∗ toSend c 7
        ∗ ((owed c (Os c [2, 8, 3, 9, 4, 10, 5, 11]) ∗ inflA m c (lft c)
            ∗ held c a16M (a16 0) (A16 m c (opp c)) ∗ held c a16M (a16 1) (A16 m c (rgt c))
            ∗ held c b16M (bcol 2) (B16 m c 2) ∗ held c b16M (bcol 3) (B16 m c 3) ∗ inSend c 7)
          -∗ Kt (k0_pay12 (A16 m c (rgt c)) (B16 m c 2))))
      ⊢ run c (atArgs (k0_part6 (F := F)) c v24 (k0_pay9 (AR m c (rgt c))) v136) Kt := by
  unfold atArgs
  simp only [k0_part6_eq_skeleton]; unfold k0_part6_skel
  simp only [Prog.lift, Prog.bind_op, Prog.bind_ret, Prog.pure_eq_ret]
  iintro ⟨#HR, HO, HA, Ha0, Ha1, Hb2, Hb3, Hs, Hm, Ht, Hk⟩
  iapply (step_store c a16M (a16 1) (w := A16 m c (rgt c))) $$ Ha1; iintro Ha1
  iapply (step_dmaA m c (lft c) (off_lft c)) $$ HA; iintro HA
  iapply (step_prod c 0 3 7 rfl) $$ [Ha0 Hb3 Hs]
  · isplitl [Ha0]; · iexact Ha0
    isplitl [Hb3] <;> iassumption
  iintro ⟨Ha0, Hb3, Hs⟩
  iapply (step_send m K c 7 [2, 8, 3, 9, 4, 10, 5, 11] (dev6_eq c) rfl rfl rfl rfl) $$ [Hs Hm Ht HO]
  · isplitr; · iexact HR
    isplitl [Hs]; · iexact Hs
    isplitl [Hm]; · iexact Hm
    isplitl [Ht] <;> iassumption
  iintro ⟨Hc, HO⟩
  iapply (step_load c a16M (a16 1)) $$ Ha1; iintro Ha1
  iapply (step_load c b16M (bcol 2)) $$ Hb2; iintro Hb2
  iapply (step_ret c)
  iapply Hk
  isplitl [HO]; · iexact HO
  isplitl [HA]; · iexact HA
  isplitl [Ha0]; · iexact Ha0
  isplitl [Ha1]; · iexact Ha1
  isplitl [Hb2]; · iexact Hb2
  isplitl [Hb3] <;> iassumption

/-- Transfer 2; the left neighbour's row block converted. -/
theorem part7_run (v2 v13 : BitVec 32) (Kt : (Σ' (v189 : FVec F S768x768 .bf16), Vec F S1x768x768 .bf16) → sProp 𝕄) :
    iprop(recs m K ∗ owed c (Os c [2, 8, 3, 9, 4, 10, 5, 11]) ∗ inflA m c (lft c)
        ∗ held c a16M (a16 0) (A16 m c (opp c)) ∗ held c b16M (bcol 0) (B16 m c 0) ∗ heldSome c sM (piece 8)
        ∗ heldSome c sM (piece 2) ∗ room c 2 ∗ toSend c 2
        ∗ (∀ v190, (owed c (Os c [8, 3, 9, 4, 10, 5, 11]) ∗ inflA m c c
            ∗ held c a16M (a16 0) (A16 m c (lft c)) ∗ held c b16M (bcol 0) (B16 m c 0) ∗ heldSome c sM (piece 8) ∗ inSend c 2)
          -∗ Kt ⟨k0_pay15 (A16 m c (lft c)) (B16 m c 0), v190⟩))
      ⊢ run c (atArgs (k0_part7 (F := F)) c v2 v13 (k0_pay12 (A16 m c (rgt c)) (B16 m c 2))) Kt := by
  unfold atArgs
  simp only [k0_part7_eq_skeleton]; unfold k0_part7_skel
  simp only [Prog.lift, Prog.bind_op, Prog.bind_ret, Prog.pure_eq_ret]
  iintro ⟨#HR, HO, HA, Ha0, Hb0, Hs8, Hs, Hm, Ht, Hk⟩
  iapply (step_loadSome c sM (piece 2)) $$ Hs; iintro %_ Hs
  iapply (step_store c sM (piece 2)) $$ Hs; iintro Hs
  iapply (step_send m K c 2 [8, 3, 9, 4, 10, 5, 11] (dev7_eq c) rfl rfl rfl rfl) $$ [Hs Hm Ht HO]
  · isplitr; · iexact HR
    isplitl [Hs]; · iexact Hs
    isplitl [Hm]; · iexact Hm
    isplitl [Ht] <;> iassumption
  iintro ⟨Hc, HO⟩
  ihave Ha0 := held_some $$ Ha0
  iapply (step_stageA m K c (lft c) 0 _ rfl) $$ [HA HO Ha0]
  · isplitr; · iexact HR
    isplitl [HA]; · iexact HA
    isplitl [HO] <;> iassumption
  iintro ⟨HA, HO, Ha0⟩
  iapply (step_dmaA m c c (k0_off2_eq c)) $$ HA; iintro HA
  iapply (step_load c a16M (a16 0)) $$ Ha0; iintro Ha0
  iapply (step_load c b16M (bcol 0)) $$ Hb0; iintro Hb0
  iapply (step_loadSome c sM (piece 8)) $$ Hs8; iintro %w Hs8
  iapply (step_ret c)
  iapply Hk $$ %w
  isplitl [HO]; · iexact HO
  isplitl [HA]; · iexact HA
  isplitl [Ha0]; · iexact Ha0
  isplitl [Hb0]; · iexact Hb0
  isplitl [Hs8] <;> iassumption

/-- Transfer 8, and the product that is piece 3. -/
theorem part8_run (v13 v24 : BitVec 32) (v190 : Vec F S1x768x768 .bf16) (Kt : PUnit → sProp 𝕄) :
    iprop(recs m K ∗ owed c (Os c [8, 3, 9, 4, 10, 5, 11])
        ∗ held c a16M (a16 1) (A16 m c (rgt c)) ∗ held c b16M (bcol 3) (B16 m c 3) ∗ heldSome c sM (piece 3)
        ∗ heldSome c sM (piece 8) ∗ room c 8 ∗ toSend c 8
        ∗ ((owed c (Os c [3, 9, 4, 10, 5, 11])
            ∗ held c a16M (a16 1) (A16 m c (rgt c)) ∗ held c b16M (bcol 3) (B16 m c 3) ∗ held c sM (piece 3) (sentV m c 3) ∗ inSend c 8)
          -∗ Kt ⟨⟩))
      ⊢ run c (atArgs (k0_part8 (F := F)) c v13 v24 (k0_pay15 (A16 m c (lft c)) (B16 m c 0)) v190) Kt := by
  unfold atArgs
  simp only [k0_part8_eq_skeleton]; unfold k0_part8_skel
  simp only [Prog.lift, Prog.bind_op, Prog.bind_ret, Prog.pure_eq_ret]
  iintro ⟨#HR, HO, Ha1, Hb3, Hs3, Hs, Hm, Ht, Hk⟩
  iapply (step_store c sM (piece 8)) $$ Hs; iintro Hs
  iapply (step_send m K c 8 [3, 9, 4, 10, 5, 11] (dev8_eq c) rfl rfl rfl rfl) $$ [Hs Hm Ht HO]
  · isplitr; · iexact HR
    isplitl [Hs]; · iexact Hs
    isplitl [Hm]; · iexact Hm
    isplitl [Ht] <;> iassumption
  iintro ⟨Hc, HO⟩
  iapply (step_prod c 1 3 3 rfl) $$ [Ha1 Hb3 Hs3]
  · isplitl [Ha1]; · iexact Ha1
    isplitl [Hb3] <;> iassumption
  iintro ⟨Ha1, Hb3, Hs3⟩
  iapply (step_ret c)
  iapply Hk
  isplitl [HO]; · iexact HO
  isplitl [Ha1]; · iexact Ha1
  isplitl [Hb3]; · iexact Hb3
  isplitl [Hs3]; · iexact Hs3
  iexact Hc

/-- The transfers 3 and 9, and the product under piece 4. -/
theorem part9_run (v24 : BitVec 32) (Kt : PUnit → sProp 𝕄) :
    iprop(recs m K ∗ owed c (Os c [3, 9, 4, 10, 5, 11])
        ∗ held c a16M (a16 0) (A16 m c (lft c)) ∗ held c a16M (a16 1) (A16 m c (rgt c)) ∗ held c b16M (bcol 0) (B16 m c 0) ∗ held c b16M (bcol 1) (B16 m c 1)
        ∗ held c sM (piece 3) (sentV m c 3) ∗ room c 3 ∗ toSend c 3
        ∗ heldSome c sM (piece 9) ∗ room c 9 ∗ toSend c 9
        ∗ heldSome c sM (piece 4)
        ∗ ((owed c (Os c [4, 10, 5, 11])
            ∗ held c a16M (a16 0) (A16 m c (lft c)) ∗ held c a16M (a16 1) (A16 m c (rgt c)) ∗ held c b16M (bcol 0) (B16 m c 0) ∗ held c b16M (bcol 1) (B16 m c 1)
            ∗ held c sM (piece 4) (part m c (rgt c) 0) ∗ inSend c 3 ∗ inSend c 9)
          -∗ Kt ⟨⟩))
      ⊢ run c (atArgs (k0_part9 (F := F)) c v24) Kt := by
  unfold atArgs
  simp only [k0_part9_eq_skeleton]; unfold k0_part9_skel
  simp only [Prog.lift, Prog.bind_op, Prog.bind_ret, Prog.pure_eq_ret]
  iintro ⟨#HR, HO, Ha0, Ha1, Hb0, Hb1, Hs, Hm, Ht, Hs9, Hm9, Ht9, Hs4, Hk⟩
  iapply (step_send m K c 3 [9, 4, 10, 5, 11] (dev9_eq c) rfl rfl rfl rfl) $$ [Hs Hm Ht HO]
  · isplitr; · iexact HR
    isplitl [Hs]; · iexact Hs
    isplitl [Hm]; · iexact Hm
    isplitl [Ht] <;> iassumption
  iintro ⟨Hc, HO⟩
  iapply (step_prod c 0 1 9 rfl) $$ [Ha0 Hb1 Hs9]
  · isplitl [Ha0]; · iexact Ha0
    isplitl [Hb1] <;> iassumption
  iintro ⟨Ha0, Hb1, Hs9⟩
  iapply (step_send m K c 9 [4, 10, 5, 11] (dev10_eq c) rfl rfl rfl rfl) $$ [Hs9 Hm9 Ht9 HO]
  · isplitr; · iexact HR
    isplitl [Hs9]; · iexact Hs9
    isplitl [Hm9]; · iexact Hm9
    isplitl [Ht9] <;> iassumption
  iintro ⟨Hc9, HO⟩
  iapply (step_prod c 1 0 4 rfl) $$ [Ha1 Hb0 Hs4]
  · isplitl [Ha1]; · iexact Ha1
    isplitl [Hb0] <;> iassumption
  iintro ⟨Ha1, Hb0, Hs4⟩
  iapply (step_ret c)
  iapply Hk
  isplitl [HO]; · iexact HO
  isplitl [Ha0]; · iexact Ha0
  isplitl [Ha1]; · iexact Ha1
  isplitl [Hb0]; · iexact Hb0
  isplitl [Hb1]; · iexact Hb1
  isplitl [Hs4]; · unfold part; iexact Hs4
  isplitl [Hc] <;> iassumption

end Cert.RingProof

end
-- ==== Proof.Part3.lean ====
/-
  The body's parts with the transfers 4, 10, 5 and 11: the products for the neighbours with what came in for them added.
-/
module

public import proofs.«01_k».proof.Proof.Args

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 25 → ℕ) (c : Dev nD)

/-- The products under the pieces 10, 5 and 11. -/
theorem part10_run (v13 : BitVec 32) (Kt : BitVec 32 → sProp 𝕄) :
    iprop(held c a16M (a16 0) (A16 m c (lft c)) ∗ held c a16M (a16 1) (A16 m c (rgt c))
        ∗ held c b16M (bcol 1) (B16 m c 1) ∗ held c b16M (bcol 2) (B16 m c 2) ∗ held c b16M (bcol 3) (B16 m c 3)
        ∗ heldSome c sM (piece 10) ∗ heldSome c sM (piece 5) ∗ heldSome c sM (piece 11)
        ∗ (∀ w, (held c a16M (a16 0) (A16 m c (lft c)) ∗ held c a16M (a16 1) (A16 m c (rgt c))
            ∗ held c b16M (bcol 1) (B16 m c 1) ∗ held c b16M (bcol 2) (B16 m c 2) ∗ held c b16M (bcol 3) (B16 m c 3)
            ∗ held c sM (piece 10) (part m c (lft c) 2) ∗ held c sM (piece 5) (part m c (rgt c) 1) ∗ held c sM (piece 11) (part m c (lft c) 3))
          -∗ Kt w))
      ⊢ run c (atArgs (k0_part10 (F := F)) v13) Kt := by
  unfold atArgs
  simp only [k0_part10_eq_skeleton]; unfold k0_part10_skel
  simp only [Prog.lift, Prog.bind_op, Prog.bind_ret, Prog.pure_eq_ret]
  iintro ⟨Ha0, Ha1, Hb1, Hb2, Hb3, Hs10, Hs5, Hs11, Hk⟩
  iapply (step_prod c 0 2 10 rfl) $$ [Ha0 Hb2 Hs10]
  · isplitl [Ha0]; · iexact Ha0
    isplitl [Hb2] <;> iassumption
  iintro ⟨Ha0, Hb2, Hs10⟩
  iapply (step_prod c 1 1 5 rfl) $$ [Ha1 Hb1 Hs5]
  · isplitl [Ha1]; · iexact Ha1
    isplitl [Hb1] <;> iassumption
  iintro ⟨Ha1, Hb1, Hs5⟩
  iapply (step_prod c 0 3 11 rfl) $$ [Ha0 Hb3 Hs11]
  · isplitl [Ha0]; · iexact Ha0
    isplitl [Hb3] <;> iassumption
  iintro ⟨Ha0, Hb3, Hs11⟩
  iapply (step_ret c)
  iapply Hk
  unfold part
  isplitl [Ha0]; · iexact Ha0
  isplitl [Ha1]; · iexact Ha1
  isplitl [Hb1]; · iexact Hb1
  isplitl [Hb2]; · iexact Hb2
  isplitl [Hb3]; · iexact Hb3
  isplitl [Hs10]; · iexact Hs10
  isplitl [Hs5] <;> iassumption

/-- Piece 0 comes in; transfer 4. -/
theorem part11_run (v13 v24 v271 : BitVec 32) (Kt : PUnit → sProp 𝕄) :
    iprop(recs m K ∗ owed c (Os c [4, 10, 5, 11]) ∗ toRecv c 0 ∗ held c sM (piece 4) (part m c (rgt c) 0) ∗ room c 4 ∗ toSend c 4
        ∗ ((owed c (Os c [10, 5, 11]) ∗ semVal (recvCell c 0) 0 ∗ heldSome c vM (piece 0) ∗ inSend c 4) -∗ Kt ⟨⟩))
      ⊢ run c (atArgs (k0_part11 (F := F)) c v13 v24 v271) Kt := by
  unfold atArgs
  simp only [k0_part11_eq_skeleton]; unfold k0_part11_skel
  simp only [Prog.lift, Prog.bind_op, Prog.bind_ret, Prog.pure_eq_ret]
  iintro ⟨#HR, HO, Hv, Hs, Hm, Ht, Hk⟩
  iapply (step_pass m K c 0 4 [10, 5, 11] (S := sPc 0) (D := vPc 0) (by decide) (by rw [recvV_0]; rfl) rfl rfl rfl (dev11_eq c) rfl rfl rfl rfl) $$ [Hv HO Hs Hm Ht]
  · isplitr; · iexact HR
    isplitl [Hv]; · iexact Hv
    isplitl [HO]; · iexact HO
    isplitl [Hs]; · iexact Hs
    isplitl [Hm] <;> iassumption
  iintro ⟨Hz, Hv, Hc, HO⟩
  ihave Hv := held_some $$ Hv
  iapply (step_ret c)
  iapply Hk
  isplitl [HO]; · iexact HO
  isplitl [Hz]; · iexact Hz
  isplitl [Hv] <;> iassumption

/-- Piece 6 comes in; transfer 10. -/
theorem part12_run (v13 v24 : BitVec 32) (Kt : PUnit → sProp 𝕄) :
    iprop(recs m K ∗ owed c (Os c [10, 5, 11]) ∗ toRecv c 6 ∗ held c sM (piece 10) (part m c (lft c) 2) ∗ room c 10 ∗ toSend c 10
        ∗ ((owed c (Os c [5, 11]) ∗ semVal (recvCell c 6) 0 ∗ heldSome c vM (piece 6) ∗ inSend c 10) -∗ Kt ⟨⟩))
      ⊢ run c (atArgs (k0_part12 (F := F)) c v13 v24) Kt := by
  unfold atArgs
  simp only [k0_part12_eq_skeleton]; unfold k0_part12_skel
  simp only [Prog.lift, Prog.bind_op, Prog.bind_ret, Prog.pure_eq_ret]
  iintro ⟨#HR, HO, Hv, Hs, Hm, Ht, Hk⟩
  iapply (step_pass m K c 6 10 [5, 11] (S := sPc 6) (D := vPc 6) (by decide) (by rw [recvV_6]; rfl) rfl rfl rfl (dev12_eq c) rfl rfl rfl rfl) $$ [Hv HO Hs Hm Ht]
  · isplitr; · iexact HR
    isplitl [Hv]; · iexact Hv
    isplitl [HO]; · iexact HO
    isplitl [Hs]; · iexact Hs
    isplitl [Hm] <;> iassumption
  iintro ⟨Hz, Hv, Hc, HO⟩
  ihave Hv := held_some $$ Hv
  iapply (step_ret c)
  iapply Hk
  isplitl [HO]; · iexact HO
  isplitl [Hz]; · iexact Hz
  isplitl [Hv] <;> iassumption

/-- Piece 1 comes in; transfer 5. -/
theorem part13_run (v13 v24 : BitVec 32) (Kt : PUnit → sProp 𝕄) :
    iprop(recs m K ∗ owed c (Os c [5, 11]) ∗ toRecv c 1 ∗ held c sM (piece 5) (part m c (rgt c) 1) ∗ room c 5 ∗ toSend c 5
        ∗ ((owed c (Os c [11]) ∗ semVal (recvCell c 1) 0 ∗ heldSome c vM (piece 1) ∗ inSend c 5) -∗ Kt ⟨⟩))
      ⊢ run c (atArgs (k0_part13 (F := F)) c v13 v24) Kt := by
  unfold atArgs
  simp only [k0_part13_eq_skeleton]; unfold k0_part13_skel
  simp only [Prog.lift, Prog.bind_op, Prog.bind_ret, Prog.pure_eq_ret]
  iintro ⟨#HR, HO, Hv, Hs, Hm, Ht, Hk⟩
  iapply (step_pass m K c 1 5 [11] (S := sPc 1) (D := vPc 1) (by decide) (by rw [recvV_1]; rfl) rfl rfl rfl (dev13_eq c) rfl rfl rfl rfl) $$ [Hv HO Hs Hm Ht]
  · isplitr; · iexact HR
    isplitl [Hv]; · iexact Hv
    isplitl [HO]; · iexact HO
    isplitl [Hs]; · iexact Hs
    isplitl [Hm] <;> iassumption
  iintro ⟨Hz, Hv, Hc, HO⟩
  ihave Hv := held_some $$ Hv
  iapply (step_ret c)
  iapply Hk
  isplitl [HO]; · iexact HO
  isplitl [Hz]; · iexact Hz
  isplitl [Hv] <;> iassumption

/-- Piece 7 comes in; transfer 11; the device's own row block converted. -/
theorem part14_run (v24 : BitVec 32) (Kt : PUnit → sProp 𝕄) :
    iprop(recs m K ∗ owed c (Os c [11]) ∗ toRecv c 7 ∗ held c sM (piece 11) (part m c (lft c) 3) ∗ room c 11 ∗ toSend c 11
        ∗ inflA m c c ∗ heldSome c a16M (a16 1)
        ∗ ((owed c (Os c []) ∗ semVal (recvCell c 7) 0 ∗ heldSome c vM (piece 7) ∗ inSend c 11 ∗ idleA m c ∗ held c a16M (a16 1) (A16 m c c)) -∗ Kt ⟨⟩))
      ⊢ run c (atArgs (k0_part14 (F := F)) c v24) Kt := by
  unfold atArgs
  simp only [k0_part14_eq_skeleton]; unfold k0_part14_skel
  simp only [Prog.lift, Prog.bind_op, Prog.bind_ret, Prog.pure_eq_ret]
  iintro ⟨#HR, HO, Hv, Hs, Hm, Ht, HA, Ha1, Hk⟩
  iapply (step_pass m K c 7 11 [] (S := sPc 7) (D := vPc 7) (by decide) (by rw [recvV_7]; rfl) rfl rfl rfl (dev14_eq c) rfl rfl rfl rfl) $$ [Hv HO Hs Hm Ht]
  · isplitr; · iexact HR
    isplitl [Hv]; · iexact Hv
    isplitl [HO]; · iexact HO
    isplitl [Hs]; · iexact Hs
    isplitl [Hm] <;> iassumption
  iintro ⟨Hz, Hv, Hc, HO⟩
  ihave Hv := held_some $$ Hv
  iapply (step_stageA m K c c 1 [] rfl) $$ [HA HO Ha1]
  · isplitr; · iexact HR
    isplitl [HA]; · iexact HA
    isplitl [HO] <;> iassumption
  iintro ⟨HA, HO, Ha1⟩
  iapply (step_ret c)
  iapply Hk
  isplitl [HO]; · iexact HO
  isplitl [Hz]; · iexact Hz
  isplitl [Hv]; · iexact Hv
  isplitl [Hc]; · iexact Hc
  isplitl [HA] <;> iassumption

end Cert.RingProof

end
-- ==== Proof.Joins.lean ====
/-
  Buffers cut into rectangles and put together again: the pieces of the two transfer buffers, the slots the result is added
  up from, the column quarters of `B`, the halves of the result.
-/
module

public import Idealize.ShloMosaic.Lib.Ring
public import proofs.«01_k».proof.Proof.Base

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Which rectangle an index lies in -/

theorem mem_piece (j : Fin 12) (i : S6x768x1536.Idx) : i ∈ (piece j).set ↔ 2 * (i 0).val + (i 2).val / 768 = j.val := by
  have b0 : (i 0).val < 6 := (i 0).isLt
  have b1 : (i 1).val < 768 := (i 1).isLt
  have b2 : (i 2).val < 1536 := (i 2).isLt
  refine Rect.mem_set_unit.trans ⟨fun h => ?_, fun h a => ?_⟩
  · have h0 : j.val / 2 ≤ (i 0).val ∧ (i 0).val < j.val / 2 + 1 := h 0
    have h2 : 768 * (j.val % 2) ≤ (i 2).val ∧ (i 2).val < 768 * (j.val % 2) + 768 := h 2
    omega
  · match a with
    | 0 => show j.val / 2 ≤ (i 0).val ∧ (i 0).val < j.val / 2 + 1; omega
    | 1 => show 0 ≤ (i 1).val ∧ (i 1).val < 0 + 768; omega
    | 2 => show 768 * (j.val % 2) ≤ (i 2).val ∧ (i 2).val < 768 * (j.val % 2) + 768; omega

theorem mem_slot (k : Fin 6) (i : S6x768x1536.Idx) : i ∈ (slot k).set ↔ (i 0).val = k.val := by
  have b1 : (i 1).val < 768 := (i 1).isLt
  have b2 : (i 2).val < 1536 := (i 2).isLt
  refine Rect.mem_set_unit.trans ⟨fun h => ?_, fun h a => ?_⟩
  · have h0 : k.val ≤ (i 0).val ∧ (i 0).val < k.val + 1 := h 0
    omega
  · match a with
    | 0 => show k.val ≤ (i 0).val ∧ (i 0).val < k.val + 1; omega
    | 1 => show 0 ≤ (i 1).val ∧ (i 1).val < 0 + 768; omega
    | 2 => show 0 ≤ (i 2).val ∧ (i 2).val < 0 + 1536; omega

theorem mem_a16 (k : Fin 2) (i : S2x768x1536.Idx) : i ∈ (a16 k).set ↔ (i 0).val = k.val := by
  have b1 : (i 1).val < 768 := (i 1).isLt
  have b2 : (i 2).val < 1536 := (i 2).isLt
  refine Rect.mem_set_unit.trans ⟨fun h => ?_, fun h a => ?_⟩
  · have h0 : k.val ≤ (i 0).val ∧ (i 0).val < k.val + 1 := h 0
    omega
  · match a with
    | 0 => show k.val ≤ (i 0).val ∧ (i 0).val < k.val + 1; omega
    | 1 => show 0 ≤ (i 1).val ∧ (i 1).val < 0 + 768; omega
    | 2 => show 0 ≤ (i 2).val ∧ (i 2).val < 0 + 1536; omega

theorem mem_bcol (q : Fin 4) (i : S1536x3072.Idx) : i ∈ (bcol q).set ↔ (i 1).val / 768 = q.val := by
  have b0 : (i 0).val < 1536 := (i 0).isLt
  have b1 : (i 1).val < 3072 := (i 1).isLt
  refine Rect.mem_set_unit.trans ⟨fun h => ?_, fun h a => ?_⟩
  · have h1 : 768 * q.val ≤ (i 1).val ∧ (i 1).val < 768 * q.val + 768 := h 1
    omega
  · match a with
    | 0 => show 0 ≤ (i 0).val ∧ (i 0).val < 0 + 1536; omega
    | 1 => show 768 * q.val ≤ (i 1).val ∧ (i 1).val < 768 * q.val + 768; omega

theorem mem_bhalf (h : Fin 2) (i : S1536x3072.Idx) : i ∈ (bhalf h).set ↔ (i 1).val / 1536 = h.val := by
  have b0 : (i 0).val < 1536 := (i 0).isLt
  have b1 : (i 1).val < 3072 := (i 1).isLt
  refine Rect.mem_set_unit.trans ⟨fun g => ?_, fun g a => ?_⟩
  · have h1 : 1536 * h.val ≤ (i 1).val ∧ (i 1).val < 1536 * h.val + 1536 := g 1
    omega
  · match a with
    | 0 => show 0 ≤ (i 0).val ∧ (i 0).val < 0 + 1536; omega
    | 1 => show 1536 * h.val ≤ (i 1).val ∧ (i 1).val < 1536 * h.val + 1536; omega

theorem mem_ohalf (h : Fin 2) (i : S768x3072.Idx) : i ∈ (ohalf h).set ↔ (i 1).val / 1536 = h.val := by
  have b0 : (i 0).val < 768 := (i 0).isLt
  have b1 : (i 1).val < 3072 := (i 1).isLt
  refine Rect.mem_set_unit.trans ⟨fun g => ?_, fun g a => ?_⟩
  · have h1 : 1536 * h.val ≤ (i 1).val ∧ (i 1).val < 1536 * h.val + 1536 := g 1
    omega
  · match a with
    | 0 => show 0 ≤ (i 0).val ∧ (i 0).val < 0 + 768; omega
    | 1 => show 1536 * h.val ≤ (i 1).val ∧ (i 1).val < 1536 * h.val + 1536; omega

/-! ## Cutting and joining -/

/-- Rectangles that part a shape: each index in just the one that `w` names. -/
def Parts {s : Shape} {B : Type} (r : B → Rect s) (w : s.Idx → B) : Prop := ∀ i x, i ∈ (r x).set ↔ w i = x

theorem parts_piece : Parts piece fun i => ⟨2 * (i 0).val + (i 2).val / 768, by
    have b0 : (i 0).val < 6 := (i 0).isLt
    have b2 : (i 2).val < 1536 := (i 2).isLt
    omega⟩ := fun i x => (mem_piece x i).trans (by rw [Fin.ext_iff])
theorem parts_a16 : Parts a16 fun i => (⟨(i 0).val, (i 0).isLt⟩ : Fin 2) := fun i x => (mem_a16 x i).trans (by rw [Fin.ext_iff])
theorem parts_bcol : Parts bcol fun i => ⟨(i 1).val / 768, by have b1 : (i 1).val < 3072 := (i 1).isLt; omega⟩ :=
  fun i x => (mem_bcol x i).trans (by rw [Fin.ext_iff])
theorem parts_bhalf : Parts bhalf fun i => ⟨(i 1).val / 1536, by have b1 : (i 1).val < 3072 := (i 1).isLt; omega⟩ :=
  fun i x => (mem_bhalf x i).trans (by rw [Fin.ext_iff])
theorem parts_ohalf : Parts ohalf fun i => ⟨(i 1).val / 1536, by have b1 : (i 1).val < 3072 := (i 1).isLt; omega⟩ :=
  fun i x => (mem_ohalf x i).trans (by rw [Fin.ext_iff])

section Cut
variable (c : Dev nD) (b : Ref sig .tc)

theorem access_disjoint {r r' : Rect b.ty.shape} (h : Disjoint r.set r'.set) :
    Disjoint ((Memref.whole b).access r).set ((Memref.whole b).access r').set := by
  show Disjoint ((View.whole b).slice r).set ((View.whole b).slice r').set
  rw [View.set_slice_whole, View.set_slice_whole]; exact h

theorem Parts.disjoint {s : Shape} {B : Type} {r : B → Rect s} {w : s.Idx → B} (h : Parts r w) {x y : B} (hxy : x ≠ y) :
    Disjoint (r x).set (r y).set :=
  Finset.disjoint_left.mpr fun i hx hy => hxy (((h i x).mp hx).symm.trans ((h i y).mp hy))

section
variable {b}
variable {B : Type} [Fintype B] [DecidableEq B] {r : B → Rect b.ty.shape} {w : b.ty.shape.Idx → B} (h : Parts r w)
include h

theorem Parts.cover : (Finset.univ.biUnion fun x => (show Finset b.ty.shape.Idx from ((Memref.whole b).access (r x)).set)) = Finset.univ := by
  refine Finset.eq_univ_iff_forall.mpr fun i => Finset.mem_biUnion.mpr ⟨w i, Finset.mem_univ _, ?_⟩
  show i ∈ ((View.whole b).slice (r (w i))).set
  rw [View.set_slice_whole]; exact (h i _).mpr rfl

/-- A buffer held whole is held part by part; -/
theorem Parts.cut : (iprop(∃ f : Buf (Elt F) ((c : Thread nD τ).loc b), ((c : Thread nD τ).loc b) ↦{fullShare} f) : sProp 𝕄)
    ⊢ bigSep Finset.univ fun x => heldSome c (Memref.whole b) (r x) := by
  iintro ⟨%f, H⟩
  have e := Ring.pointsTo_blocks (nD := nD) (τ := τ) (sig := sig) (Ix := Unit) (Val := Elt F) (Name := ℕ) (U := UU) (Lvl := ℕ)
    (ℓ := (c : Thread nD τ).loc b) (fun x => ((Memref.whole b).access (r x)).set)
    (fun x y hxy => access_disjoint b (h.disjoint hxy)) h.cover (q := fullShare) f
  have k : ∀ x ∈ (Finset.univ : Finset B), (((c : Thread nD τ).loc b) ↦[((Memref.whole b).access (r x)).set]{fullShare} f : sProp 𝕄)
      ⊢ heldSome c (Memref.whole b) (r x) := fun x _ => by
    unfold heldSome
    iintro H; iexists f; iexact H
  have K : (((c : Thread nD τ).loc b) ↦{fullShare} f : sProp 𝕄) ⊢ bigSep Finset.univ fun x => heldSome c (Memref.whole b) (r x) := by
    rw [e]; exact BI.bigSep_mono k
  iapply K
  iexact H

/-- and put together from the parts. -/
theorem Parts.join (m : (ℓ : Loc nD τ sig) → Buf (Elt F) ℓ) : (bigSep Finset.univ fun x => heldSome c (Memref.whole b) (r x))
    ⊢ (iprop(∃ f : Buf (Elt F) ((c : Thread nD τ).loc b), ((c : Thread nD τ).loc b) ↦{fullShare} f) : sProp 𝕄) :=
  Ring.pointsTo_blocks_join_exists (nD := nD) (τ := τ) (sig := sig) (Ix := Unit) (Val := Elt F) (Name := ℕ) (U := UU) (Lvl := ℕ)
    (ℓ := (c : Thread nD τ).loc b) (fun x => ((Memref.whole b).access (r x)).set)
    (fun x y hxy => access_disjoint b (h.disjoint hxy)) h.cover (q := fullShare) (m ((c : Thread nD τ).loc b))

end

/-- Two rectangles that read as the contents `G` does make up the one that is their union, which reads so too; -/
theorem join_held {r r' R : Rect b.ty.shape} (hd : Disjoint r.set r'.set) (hu : r.set ∪ r'.set = R.set) (G : b.ty.Contents (Elt F)) :
    iprop(held c (Memref.whole b) r (((Memref.whole b).access r).read (Elt F) G) ∗ held c (Memref.whole b) r' (((Memref.whole b).access r').read (Elt F) G))
      ⊢ (held c (Memref.whole b) R (((Memref.whole b).access R).read (Elt F) G) : sProp 𝕄) := by
  have key : ∀ (r : Rect b.ty.shape) (f : b.ty.Contents (Elt F)), ((Memref.whole b).access r).read (Elt F) f = ((Memref.whole b).access r).read (Elt F) G →
      ∀ i ∈ ((Memref.whole b).access r).set, f i = G i := by
    intro r f e i hi
    obtain ⟨x, -, rfl⟩ := Finset.mem_map.mp hi
    exact congrFun e x
  have hU : ((Memref.whole b).access r).set ∪ ((Memref.whole b).access r').set = ((Memref.whole b).access R).set := by
    show ((View.whole b).slice r).set ∪ ((View.whole b).slice r').set = ((View.whole b).slice R).set
    rw [View.set_slice_whole, View.set_slice_whole, View.set_slice_whole]; exact hu
  unfold held
  iintro ⟨⟨%f, %e, H⟩, ⟨%f', %e', H'⟩⟩
  have E := pointsTo_congr (nD := nD) (τ := τ) (sig := sig) (Ix := Unit) (Val := Elt F) (Name := ℕ) (U := UU) (Lvl := ℕ)
    (ℓ := (c : Thread nD τ).loc b) (q := fullShare) (key r f e)
  have E' := pointsTo_congr (nD := nD) (τ := τ) (sig := sig) (Ix := Unit) (Val := Elt F) (Name := ℕ) (U := UU) (Lvl := ℕ)
    (ℓ := (c : Thread nD τ).loc b) (q := fullShare) (key r' f' e')
  iexists G
  isplitr; · ipureintro; rfl
  have J := (pointsTo_union (nD := nD) (τ := τ) (sig := sig) (Ix := Unit) (Val := Elt F) (Name := ℕ) (U := UU) (Lvl := ℕ)
    (ℓ := (c : Thread nD τ).loc b) (q := fullShare) (f := G) (access_disjoint b hd)).2
  rw [hU] at J
  iapply J
  isplitl [H]
  · iapply (Entails.of_eq E); iexact H
  · iapply (Entails.of_eq E'); iexact H'

/-- and the union, let go of, is the two again. -/
theorem cut_held {r r' R : Rect b.ty.shape} (hd : Disjoint r.set r'.set) (hu : r.set ∪ r'.set = R.set) {w : R.shape.Idx → Elt F b.ty.elt} :
    (held c (Memref.whole b) R w : sProp 𝕄) ⊢ iprop(heldSome c (Memref.whole b) r ∗ heldSome c (Memref.whole b) r') := by
  have hU : ((Memref.whole b).access r).set ∪ ((Memref.whole b).access r').set = ((Memref.whole b).access R).set := by
    show ((View.whole b).slice r).set ∪ ((View.whole b).slice r').set = ((View.whole b).slice R).set
    rw [View.set_slice_whole, View.set_slice_whole, View.set_slice_whole]; exact hu
  unfold held heldSome
  iintro ⟨%f, -, H⟩
  have J := (pointsTo_union (nD := nD) (τ := τ) (sig := sig) (Ix := Unit) (Val := Elt F) (Name := ℕ) (U := UU) (Lvl := ℕ)
    (ℓ := (c : Thread nD τ).loc b) (q := fullShare) (f := f) (access_disjoint b hd)).1
  rw [hU] at J
  ihave ⟨H, H'⟩ := J $$ H
  isplitl [H]
  · iexists f; iexact H
  · iexists f; iexact H'

end Cut

theorem slot_union (k : Fin 6) (j j' : Fin 12) (hj : j.val = 2 * k.val) (hj' : j'.val = 2 * k.val + 1) :
    (piece j).set ∪ (piece j').set = (slot k).set := by
  ext i
  have b2 : (i 2).val < 1536 := (i 2).isLt
  rw [Finset.mem_union, mem_piece, mem_piece, mem_slot]; omega

theorem half_union (h : Fin 2) (q q' : Fin 4) (hq : q.val = 2 * h.val) (hq' : q'.val = 2 * h.val + 1) :
    (bcol q).set ∪ (bcol q').set = (bhalf h).set := by
  ext i
  rw [Finset.mem_union, mem_bcol, mem_bcol, mem_bhalf]; omega

/-! ## The contents the parts are parts of -/

/-- The whole receive buffer, of the pieces received. -/
def VG (c : Dev nD) : S6x768x1536.Idx → Elt F .bf16 := fun i =>
  recvV m c ⟨2 * (i 0).val + (i 2).val / 768, by
      have b0 : (i 0).val < 6 := (i 0).isLt
      have b2 : (i 2).val < 1536 := (i 2).isLt
      omega⟩
    (fun a => match a with
      | 0 => (0 : Fin 1)
      | 1 => ((i 1 : Fin 768))
      | 2 => (⟨(i 2).val % 768, Nat.mod_lt _ (by decide)⟩ : Fin 768))

/-- The whole converted block of `B`, of its column quarters. -/
def BG (c : Dev nD) : S1536x3072.Idx → Elt F .bf16 := fun i =>
  B16 m c ⟨(i 1).val / 768, by have b1 : (i 1).val < 3072 := (i 1).isLt; omega⟩
    (fun a => match a with
      | 0 => ((i 0 : Fin 1536))
      | 1 => (⟨(i 1).val % 768, Nat.mod_lt _ (by decide)⟩ : Fin 768))

/-- The whole result, of its two halves. -/
def OG (l r : Vec F S768x1536 .bf16) : S768x3072.Idx → Elt F .bf16 := fun i =>
  (if (i 1).val < 1536 then l else r)
    (fun a => match a with
      | 0 => ((i 0 : Fin 768))
      | 1 => (⟨(i 1).val % 1536, Nat.mod_lt _ (by decide)⟩ : Fin 1536))

theorem VG_piece (c : Dev nD) (j : Fin 12) : (vM.access (piece j)).read (Elt F) (VG m c) = recvV m c j := by
  funext x
  show VG m c ((piece j).emb x) = _
  have e0 : (((piece j).emb x) 0).val = j.val / 2 + (x 0).val := by rw [Rect.emb_apply]; show _ + 1 * _ = _; rw [Nat.one_mul]; rfl
  have e1 : (((piece j).emb x) 1).val = (x 1).val := by rw [Rect.emb_apply]; show 0 + 1 * _ = _; rw [Nat.one_mul, Nat.zero_add]
  have e2 : (((piece j).emb x) 2).val = 768 * (j.val % 2) + (x 2).val := by rw [Rect.emb_apply]; show _ + 1 * _ = _; rw [Nat.one_mul]; rfl
  have b0 : (x 0).val < 1 := (x 0).isLt
  have b2 : (x 2).val < 768 := (x 2).isLt
  refine congrArg₂ (recvV m c) ?_ ?_
  · exact Fin.ext (by show 2 * (((piece j).emb x) 0).val + (((piece j).emb x) 2).val / 768 = j.val; rw [e0, e2]; omega)
  · funext a
    match a with
    | 0 => exact Fin.ext (by show 0 = (x 0).val; omega)
    | 1 => exact Fin.ext (by show (((piece j).emb x) 1).val = _; rw [e1])
    | 2 => exact Fin.ext (by show (((piece j).emb x) 2).val % 768 = (x 2).val; rw [e2]; omega)

theorem BG_bcol (c : Dev nD) (q : Fin 4) : (b16M.access (bcol q)).read (Elt F) (BG m c) = B16 m c q := by
  funext x
  show BG m c ((bcol q).emb x) = _
  have e0 : (((bcol q).emb x) 0).val = (x 0).val := by rw [Rect.emb_apply]; show 0 + 1 * _ = _; rw [Nat.one_mul, Nat.zero_add]
  have e1 : (((bcol q).emb x) 1).val = 768 * q.val + (x 1).val := by rw [Rect.emb_apply]; show _ + 1 * _ = _; rw [Nat.one_mul]; rfl
  have b1 : (x 1).val < 768 := (x 1).isLt
  refine congrArg₂ (B16 m c) ?_ ?_
  · exact Fin.ext (by show (((bcol q).emb x) 1).val / 768 = q.val; rw [e1]; omega)
  · funext a
    match a with
    | 0 => exact Fin.ext (by show (((bcol q).emb x) 0).val = _; rw [e0])
    | 1 => exact Fin.ext (by show (((bcol q).emb x) 1).val % 768 = (x 1).val; rw [e1]; omega)

omit [FloatOps F] in
theorem OG_ohalf (l r : Vec F S768x1536 .bf16) (h : Fin 2) :
    (oM.access (ohalf h)).read (Elt F) (OG l r) = if h.val = 0 then l else r := by
  funext x
  show OG l r ((ohalf h).emb x) = _
  have e0 : (((ohalf h).emb x) 0).val = (x 0).val := by rw [Rect.emb_apply]; show 0 + 1 * _ = _; rw [Nat.one_mul, Nat.zero_add]
  have e1 : (((ohalf h).emb x) 1).val = 1536 * h.val + (x 1).val := by rw [Rect.emb_apply]; show _ + 1 * _ = _; rw [Nat.one_mul]; rfl
  have b1 : (x 1).val < 1536 := (x 1).isLt
  have e : (((ohalf h).emb x) 1).val < 1536 ↔ h.val = 0 := by rw [e1]; omega
  unfold OG
  simp only [e]
  refine congrArg (if h.val = 0 then l else r) ?_
  · funext a
    match a with
    | 0 => exact Fin.ext (by show (((ohalf h).emb x) 0).val = _; rw [e0])
    | 1 => exact Fin.ext (by show (((ohalf h).emb x) 1).val % 1536 = (x 1).val; rw [e1]; omega)

/-- Slot `k` of the receive buffer, both its pieces received. -/
def RS (c : Dev nD) (k : Fin 6) : Vec F S1x768x1536 .bf16 := (vM.access (slot k)).read (Elt F) (VG m c)
/-- Column half `h` of the converted block of `B`. -/
def BH (c : Dev nD) (h : Fin 2) : Vec F S1536x1536 .bf16 := (b16M.access (bhalf h)).read (Elt F) (BG m c)

theorem slot_join (c : Dev nD) (k : Fin 6) (j j' : Fin 12) (hj : j.val = 2 * k.val) (hj' : j'.val = 2 * k.val + 1) :
    iprop(held c vM (piece j) (recvV m c j) ∗ held c vM (piece j') (recvV m c j')) ⊢ (held c vM (slot k) (RS m c k) : sProp 𝕄) := by
  rw [← VG_piece, ← VG_piece]
  exact join_held c cc0_scratch1 (parts_piece.disjoint (fun e => by rw [e] at hj; omega)) (slot_union k j j' hj hj') (VG m c)

theorem slot_cut (c : Dev nD) (k : Fin 6) (j j' : Fin 12) (hj : j.val = 2 * k.val) (hj' : j'.val = 2 * k.val + 1) :
    held c vM (slot k) (RS m c k) ⊢ (iprop(heldSome c vM (piece j) ∗ heldSome c vM (piece j')) : sProp 𝕄) :=
  cut_held c cc0_scratch1 (parts_piece.disjoint (fun e => by rw [e] at hj; omega)) (slot_union k j j' hj hj')

theorem half_join (c : Dev nD) (h : Fin 2) (q q' : Fin 4) (hq : q.val = 2 * h.val) (hq' : q'.val = 2 * h.val + 1) :
    iprop(held c b16M (bcol q) (B16 m c q) ∗ held c b16M (bcol q') (B16 m c q')) ⊢ (held c b16M (bhalf h) (BH m c h) : sProp 𝕄) := by
  rw [← BG_bcol, ← BG_bcol]
  exact join_held c cc0_scratch5 (parts_bcol.disjoint (fun e => by rw [e] at hq; omega)) (half_union h q q' hq hq') (BG m c)

/-- The two halves of the result make it up. -/
theorem out_join (c : Dev nD) (l r : Vec F S768x1536 .bf16) :
    iprop(held c oM (ohalf 0) l ∗ held c oM (ohalf 1) r) ⊢ ((((c : Thread nD τ).loc cc0_stg0_0) ↦{fullShare} OG l r) : sProp 𝕄) := by
  have e0 := OG_ohalf l r 0
  have e1 := OG_ohalf l r 1
  rw [if_pos (by decide)] at e0
  rw [if_neg (by decide)] at e1
  have J := join_held (F := F) c cc0_stg0_0 (r := ohalf 0) (r' := ohalf 1) (R := Rect.whole S768x3072)
    (parts_ohalf.disjoint (by decide)) (by
      refine Eq.trans ?_ (Rect.set_whole _).symm
      refine Finset.eq_univ_iff_forall.mpr fun i => Finset.mem_union.mpr ?_
      have b1 : (i 1).val < 3072 := (i 1).isLt
      rw [mem_ohalf, mem_ohalf]
      show (i 1).val / 1536 = 0 ∨ (i 1).val / 1536 = 1
      omega) (OG l r)
  rw [e0, e1] at J
  refine J.trans ?_
  · unfold held
    iintro ⟨%f, %e, H⟩
    have ef : f = OG l r :=
      (Memref.read_access_whole (Elt F) cc0_stg0_0 f).symm.trans (e.trans (Memref.read_access_whole (Elt F) cc0_stg0_0 (OG l r)))
    subst ef
    have es : ((Memref.whole cc0_stg0_0).access (Rect.whole S768x3072)).set = Finset.univ := Memref.set_access_whole _
    iapply (Entails.of_eq (congrArg (fun S => (((c : Thread nD τ).loc cc0_stg0_0) ↦[S]{fullShare} OG l r : sProp 𝕄)) es))
    iexact H

end Cert.RingProof

end
-- ==== Proof.Part4.lean ====
/-
  The body's last parts: the device's own product, the six pieces that stay, their sum, and the sends' ends.
-/
module

public import proofs.«01_k».proof.Proof.Args
public import proofs.«01_k».proof.Proof.Joins

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 25 → ℕ) (c : Dev nD)

/-- The result's halves before anything from outside is added: the device's own row block times its half of `B`. -/
def OL0 : Vec F S768x1536 .bf16 := k0_pay28 (A16 m c c) (BH m c 0)
def OR0 : Vec F S768x1536 .bf16 := k0_pay29 (A16 m c c) (BH m c 1)
/-- The result's halves: that plus the two slots of products that came in for them. -/
def OL : Vec F S768x1536 .bf16 := k0_pay33 (k0_pay30 (OL0 m c)) (k0_pay31 (RS m c 2)) (k0_pay32 (RS m c 4))
def OR : Vec F S768x1536 .bf16 := k0_pay34 (OR0 m c) (RS m c 5) (RS m c 1)

/-- What came in as piece `j`, with its semaphore back at zero. -/
abbrev came (j : Fin 12) : sProp 𝕄 := iprop(semVal (recvCell c j) 0 ∗ held c vM (piece j) (recvV m c j))
/-- What went out as piece `j` is the device's again, with the semaphore at zero. -/
abbrev went (j : Fin 12) : sProp 𝕄 := iprop(semVal (sendCell c j) 0 ∗ heldSome c sM (piece j))

/-- The device's own product, in two halves; piece 8 comes in. -/
theorem part15_run (v24 : BitVec 32) (Kt : PUnit → sProp 𝕄) :
    iprop(recs m K ∗ owed c (Os c []) ∗ held c a16M (a16 1) (A16 m c c) ∗ held c b16M (bhalf 0) (BH m c 0) ∗ held c b16M (bhalf 1) (BH m c 1)
        ∗ heldSome c oM (ohalf 0) ∗ heldSome c oM (ohalf 1) ∗ toRecv c 8
        ∗ ((owed c (Os c []) ∗ held c a16M (a16 1) (A16 m c c) ∗ held c b16M (bhalf 0) (BH m c 0) ∗ held c b16M (bhalf 1) (BH m c 1)
            ∗ held c oM (ohalf 0) (OL0 m c) ∗ held c oM (ohalf 1) (OR0 m c) ∗ came m c 8) -∗ Kt ⟨⟩))
      ⊢ run c (atArgs (k0_part15 (F := F)) v24) Kt := by
  unfold atArgs
  simp only [k0_part15_eq_skeleton]; unfold k0_part15_skel
  simp only [Prog.lift, Prog.bind_op, Prog.bind_ret, Prog.pure_eq_ret]
  iintro ⟨#HR, HO, Ha, Hb0, Hb1, Ho0, Ho1, Ht8, Hk⟩
  iapply (step_load c a16M (a16 1)) $$ Ha; iintro Ha
  iapply (step_load c b16M (bhalf 0)) $$ Hb0; iintro Hb0
  iapply (step_loadSome c oM (ohalf 0)) $$ Ho0; iintro %_ Ho0
  iapply (step_store c oM (ohalf 0) (w := OL0 m c)) $$ Ho0; iintro Ho0
  iapply (step_load c a16M (a16 1)) $$ Ha; iintro Ha
  iapply (step_load c b16M (bhalf 1)) $$ Hb1; iintro Hb1
  iapply (step_loadSome c oM (ohalf 1)) $$ Ho1; iintro %_ Ho1
  iapply (step_store c oM (ohalf 1) (w := OR0 m c)) $$ Ho1; iintro Ho1
  iapply (step_rwait m K c 8 [] (by decide) (S := sPc 8) (D := vPc 8) rfl rfl) $$ [Ht8 HO]
  · iframe HR Ht8 HO
  iintro ⟨Hz8, Hv8, HO⟩
  iapply (step_ret c)
  iapply Hk
  iframe HO Ha Hb0 Hb1 Ho0 Ho1 Hz8 Hv8

/-- The pieces 9, 4 and 5 come in; the left half is read with the slots to add to it. -/
theorem part16_run (v13 : BitVec 32) (Kt : (Σ' (v426 : FVec F S768x1536 .bf16) (v428 : FVec F S768x1536 .bf16), FVec F S768x1536 .bf16) → sProp 𝕄) :
    iprop(recs m K ∗ owed c (Os c []) ∗ held c oM (ohalf 0) (OL0 m c) ∗ came m c 8 ∗ toRecv c 9 ∗ toRecv c 4 ∗ toRecv c 5
        ∗ ((owed c (Os c []) ∗ held c oM (ohalf 0) (OL0 m c) ∗ held c vM (slot 2) (RS m c 2) ∗ held c vM (slot 4) (RS m c 4)
            ∗ semVal (recvCell c 8) 0 ∗ semVal (recvCell c 9) 0 ∗ semVal (recvCell c 4) 0 ∗ semVal (recvCell c 5) 0)
          -∗ Kt ⟨k0_pay30 (OL0 m c), k0_pay31 (RS m c 2), k0_pay32 (RS m c 4)⟩))
      ⊢ run c (atArgs (k0_part16 (F := F)) v13) Kt := by
  unfold atArgs
  simp only [k0_part16_eq_skeleton]; unfold k0_part16_skel
  simp only [Prog.lift, Prog.bind_op, Prog.bind_ret, Prog.pure_eq_ret]
  iintro ⟨#HR, HO, Ho, ⟨Hz8, Hv8⟩, Ht9, Ht4, Ht5, Hk⟩
  iapply (step_rwait m K c 9 [] (by decide) (S := sPc 9) (D := vPc 9) rfl rfl) $$ [Ht9 HO]
  · iframe HR Ht9 HO
  iintro ⟨Hz9, Hv9, HO⟩
  iapply (step_rwait m K c 4 [] (by decide) (S := sPc 4) (D := vPc 4) rfl rfl) $$ [Ht4 HO]
  · iframe HR Ht4 HO
  iintro ⟨Hz4, Hv4, HO⟩
  iapply (step_rwait m K c 5 [] (by decide) (S := sPc 5) (D := vPc 5) rfl rfl) $$ [Ht5 HO]
  · iframe HR Ht5 HO
  iintro ⟨Hz5, Hv5, HO⟩
  ihave H2 := (slot_join m c 2 4 5 rfl rfl) $$ [Hv4 Hv5]
  · iframe Hv4 Hv5
  ihave H4 := (slot_join m c 4 8 9 rfl rfl) $$ [Hv8 Hv9]
  · iframe Hv8 Hv9
  iapply (step_load c oM (ohalf 0)) $$ Ho; iintro Ho
  iapply (step_load c vM (slot 2)) $$ H2; iintro H2
  iapply (step_load c vM (slot 4)) $$ H4; iintro H4
  iapply (step_ret c)
  iapply Hk
  iframe HO Ho H2 H4 Hz8 Hz9 Hz4 Hz5

/-- The left half's sum; the pieces 2 and 3 come in. -/
theorem part17_run (v13 v24 : BitVec 32) (Kt : PUnit → sProp 𝕄) :
    iprop(recs m K ∗ owed c (Os c []) ∗ held c oM (ohalf 0) (OL0 m c) ∗ toRecv c 2 ∗ toRecv c 3
        ∗ ((owed c (Os c []) ∗ held c oM (ohalf 0) (OL m c) ∗ came m c 2 ∗ came m c 3) -∗ Kt ⟨⟩))
      ⊢ run c (atArgs (k0_part17 (F := F)) v13 v24 (k0_pay30 (OL0 m c)) (k0_pay31 (RS m c 2)) (k0_pay32 (RS m c 4))) Kt := by
  unfold atArgs
  simp only [k0_part17_eq_skeleton]; unfold k0_part17_skel
  simp only [Prog.lift, Prog.bind_op, Prog.bind_ret, Prog.pure_eq_ret]
  iintro ⟨#HR, HO, Ho, Ht2, Ht3, Hk⟩
  iapply (step_load c oM (ohalf 0)) $$ Ho; iintro Ho
  iapply (step_restore c oM (ohalf 0) (w := OL m c)) $$ Ho; iintro Ho
  iapply (step_rwait m K c 2 [] (by decide) (S := sPc 2) (D := vPc 2) rfl rfl) $$ [Ht2 HO]
  · iframe HR Ht2 HO
  iintro ⟨Hz2, Hv2, HO⟩
  iapply (step_rwait m K c 3 [] (by decide) (S := sPc 3) (D := vPc 3) rfl rfl) $$ [Ht3 HO]
  · iframe HR Ht3 HO
  iintro ⟨Hz3, Hv3, HO⟩
  iapply (step_ret c)
  iapply Hk
  iframe HO Ho Hz2 Hv2 Hz3 Hv3

/-- The pieces 10 and 11 come in; the right half's sum; transfer 0 has ended. -/
theorem part18_run (v24 : BitVec 32) (Kt : PUnit → sProp 𝕄) :
    iprop(recs m K ∗ owed c (Os c []) ∗ held c oM (ohalf 1) (OR0 m c) ∗ came m c 2 ∗ came m c 3 ∗ toRecv c 10 ∗ toRecv c 11 ∗ inSend c 0
        ∗ ((owed c (Os c []) ∗ held c oM (ohalf 1) (OR m c) ∗ held c vM (slot 5) (RS m c 5) ∗ held c vM (slot 1) (RS m c 1)
            ∗ semVal (recvCell c 2) 0 ∗ semVal (recvCell c 3) 0 ∗ semVal (recvCell c 10) 0 ∗ semVal (recvCell c 11) 0 ∗ went c 0) -∗ Kt ⟨⟩))
      ⊢ run c (atArgs (k0_part18 (F := F)) v24) Kt := by
  unfold atArgs
  simp only [k0_part18_eq_skeleton]; unfold k0_part18_skel
  simp only [Prog.lift, Prog.bind_op, Prog.bind_ret, Prog.pure_eq_ret]
  iintro ⟨#HR, HO, Ho, ⟨Hz2, Hv2⟩, ⟨Hz3, Hv3⟩, Ht10, Ht11, Hc0, Hk⟩
  iapply (step_rwait m K c 10 [] (by decide) (S := sPc 10) (D := vPc 10) rfl rfl) $$ [Ht10 HO]
  · iframe HR Ht10 HO
  iintro ⟨Hz10, Hv10, HO⟩
  iapply (step_rwait m K c 11 [] (by decide) (S := sPc 11) (D := vPc 11) rfl rfl) $$ [Ht11 HO]
  · iframe HR Ht11 HO
  iintro ⟨Hz11, Hv11, HO⟩
  ihave H5 := (slot_join m c 5 10 11 rfl rfl) $$ [Hv10 Hv11]
  · iframe Hv10 Hv11
  ihave H1 := (slot_join m c 1 2 3 rfl rfl) $$ [Hv2 Hv3]
  · iframe Hv2 Hv3
  iapply (step_load c oM (ohalf 1)) $$ Ho; iintro Ho
  iapply (step_load c vM (slot 5)) $$ H5; iintro H5
  iapply (step_load c vM (slot 1)) $$ H1; iintro H1
  iapply (step_load c oM (ohalf 1)) $$ Ho; iintro Ho
  iapply (step_restore c oM (ohalf 1) (w := OR m c)) $$ Ho; iintro Ho
  iapply (step_swait m K c 0 (S := vPc 0) (D := sPc 0) rfl rfl) $$ [Hc0 HO]
  · iframe HR Hc0 HO
  iintro ⟨Hz0, Hs0, HO⟩
  iapply (step_ret c)
  iapply Hk
  iframe HO Ho H5 H1 Hz2 Hz3 Hz10 Hz11 Hz0 Hs0

/-- The transfers 1, 2 and 3 have ended. -/
theorem part19_run (Kt : PUnit → sProp 𝕄) :
    iprop(recs m K ∗ owed c (Os c []) ∗ inSend c 1 ∗ inSend c 2 ∗ inSend c 3
        ∗ ((owed c (Os c []) ∗ went c 1 ∗ went c 2 ∗ went c 3) -∗ Kt ⟨⟩))
      ⊢ run c (atArgs (k0_part19 (F := F))) Kt := by
  unfold atArgs
  simp only [k0_part19_eq_skeleton]; unfold k0_part19_skel
  simp only [Prog.lift, Prog.bind_op, Prog.bind_ret, Prog.pure_eq_ret]
  iintro ⟨#HR, HO, Hc1, Hc2, Hc3, Hk⟩
  iapply (step_swait m K c 1 (S := vPc 1) (D := sPc 1) rfl rfl) $$ [Hc1 HO]
  · iframe HR Hc1 HO
  iintro ⟨Hz1, Hs1, HO⟩
  iapply (step_swait m K c 2 (S := vPc 2) (D := sPc 2) rfl rfl) $$ [Hc2 HO]
  · iframe HR Hc2 HO
  iintro ⟨Hz2, Hs2, HO⟩
  iapply (step_swait m K c 3 (S := vPc 3) (D := sPc 3) rfl rfl) $$ [Hc3 HO]
  · iframe HR Hc3 HO
  iintro ⟨Hz3, Hs3, HO⟩
  iapply (step_ret c)
  iapply Hk
  iframe HO Hz1 Hs1 Hz2 Hs2 Hz3 Hs3

/-- The transfers 4 to 7 have ended. -/
theorem part20_run (Kt : PUnit → sProp 𝕄) :
    iprop(recs m K ∗ owed c (Os c []) ∗ inSend c 4 ∗ inSend c 5 ∗ inSend c 6 ∗ inSend c 7
        ∗ ((owed c (Os c []) ∗ went c 4 ∗ went c 5 ∗ went c 6 ∗ went c 7) -∗ Kt ⟨⟩))
      ⊢ run c (atArgs (k0_part20 (F := F))) Kt := by
  unfold atArgs
  simp only [k0_part20_eq_skeleton]; unfold k0_part20_skel
  simp only [Prog.lift, Prog.bind_op, Prog.bind_ret, Prog.pure_eq_ret]
  iintro ⟨#HR, HO, Hc4, Hc5, Hc6, Hc7, Hk⟩
  iapply (step_swait m K c 4 (S := vPc 4) (D := sPc 4) rfl rfl) $$ [Hc4 HO]
  · iframe HR Hc4 HO
  iintro ⟨Hz4, Hs4, HO⟩
  iapply (step_swait m K c 5 (S := vPc 5) (D := sPc 5) rfl rfl) $$ [Hc5 HO]
  · iframe HR Hc5 HO
  iintro ⟨Hz5, Hs5, HO⟩
  iapply (step_swait m K c 6 (S := vPc 6) (D := sPc 6) rfl rfl) $$ [Hc6 HO]
  · iframe HR Hc6 HO
  iintro ⟨Hz6, Hs6, HO⟩
  iapply (step_swait m K c 7 (S := vPc 7) (D := sPc 7) rfl rfl) $$ [Hc7 HO]
  · iframe HR Hc7 HO
  iintro ⟨Hz7, Hs7, HO⟩
  iapply (step_ret c)
  iapply Hk
  iframe HO Hz4 Hs4 Hz5 Hs5 Hz6 Hs6 Hz7 Hs7

end Cert.RingProof

end
-- ==== Proof.Body.lean ====
/-
  The kernel's body on one device, from the rights the launch gives it to its result: the parts one after another.
-/
module

public import proofs.«01_k».proof.Proof.Part1
public import proofs.«01_k».proof.Proof.Part2
public import proofs.«01_k».proof.Proof.Part3
public import proofs.«01_k».proof.Proof.Part4

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sums over the pieces, written out -/

section
variable {M : Type} [URA M]

theorem sep_fin2 (Φ : Fin 2 → sProp M) : bigSep Finset.univ Φ = iprop(Φ 0 ∗ Φ 1) :=
  bigSep_univ_eq_bigSepL [(0 : Fin 2), 1] (by decide) (by decide) Φ
theorem sep_fin4 (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ
theorem sep_fin12 (Φ : Fin 12 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), 1, 2, 3, 4, 5, 6, 7, 8, 9, 10, 11] (by decide) (by decide) Φ
end

variable (K : Dev nD × Fin 25 → ℕ) (c : Dev nD)

theorem rooms_true : (barPay c true : sProp 𝕄) = iprop(room c 0 ∗ room c 1 ∗ room c 2 ∗ room c 3 ∗ room c 4 ∗ room c 5) := if_pos rfl
theorem rooms_false : (barPay c false : sProp 𝕄) = iprop(room c 6 ∗ room c 7 ∗ room c 8 ∗ room c 9 ∗ room c 10 ∗ room c 11) :=
  if_neg (by decide)

/-- The result on device `c`. -/
def OUT : S768x3072.Idx → Elt F .bf16 := OG (OL m c) (OR m c)

/-- What the body starts from. -/
def bodyPre : sProp 𝕄 :=
  iprop(recs m K ∗ toBar c ∗ owed c (O₀ c) ∗ idleA m c ∗ idleB m c
    ∗ (bigSep Finset.univ fun k => heldSome c a16M (a16 k)) ∗ (bigSep Finset.univ fun q => heldSome c b16M (bcol q))
    ∗ (bigSep Finset.univ fun j => heldSome c sM (piece j)) ∗ (bigSep Finset.univ fun j => heldSome c vM (piece j))
    ∗ (bigSep Finset.univ fun h => heldSome c oM (ohalf h))
    ∗ (bigSep Finset.univ fun j => toSend (F := F) c j) ∗ (bigSep Finset.univ fun j => toRecv (F := F) c j))

/-- What it ends with. -/
def bodyEnd : sProp 𝕄 :=
  iprop(owed c (Os c []) ∗ semVal (barCell c) 0 ∗ idleA m c ∗ idleB m c
    ∗ (bigSep Finset.univ fun k => heldSome c a16M (a16 k)) ∗ (bigSep Finset.univ fun h => heldSome c b16M (bhalf h))
    ∗ (bigSep Finset.univ fun j => heldSome c vM (piece j)) ∗ (((c : Thread nD τ).loc cc0_stg0_0) ↦{fullShare} OUT m c)
    ∗ (bigSep Finset.univ fun j => semVal (recvCell c j) 0) ∗ (bigSep Finset.univ fun j => went c j))

theorem body_run (Kt : PUnit → sProp 𝕄) :
    iprop(bodyPre m K c ∗ (bodyEnd m c -∗ Kt ⟨⟩)) ⊢ run c (atArgs (cc0_body (F := F))) Kt := by
  unfold atArgs
  simp only [cc0_body_eq_skeleton]
  unfold cc0_body_skel
  simp only [k0_part21_eq_skeleton]
  unfold k0_part21_skel run
  simp only [Prog.lift, Prog.bind_op, Prog.bind_ret, Prog.pure_eq_ret, wp_bind]
  unfold bodyPre
  simp only [sep_fin2, sep_fin4, sep_fin12]
  iintro ⟨⟨#HR, HBar, HO, HA, HB, ⟨Ha0, Ha1⟩, ⟨Hb0, Hb1, Hb2, Hb3⟩, ⟨Hs0, Hs1, Hs2, Hs3, Hs4, Hs5, Hs6, Hs7, Hs8, Hs9, Hs10, Hs11⟩,
    ⟨Hv0, Hv1, Hv2, Hv3, Hv4, Hv5, Hv6, Hv7, Hv8, Hv9, Hv10, Hv11⟩, ⟨Ho0, Ho1⟩,
    ⟨Ht0, Ht1, Ht2, Ht3, Ht4, Ht5, Ht6, Ht7, Ht8, Ht9, Ht10, Ht11⟩, ⟨Hr0, Hr1, Hr2, Hr3, Hr4, Hr5, Hr6, Hr7, Hr8, Hr9, Hr10, Hr11⟩⟩, Hk⟩
  iapply (part1_run c)
  iintro %v2 %v13 %v24 %v35
  iapply (part2_run m K c v13 v24 v35)
  ihave HpL := (Entails.of_eq (barPay_lft (F := F) c).symm) $$ [Hv0 Hv1 Hv2 Hv3 Hv4 Hv5]
  · iframe Hv0 Hv1 Hv2 Hv3 Hv4 Hv5
  ihave HpR := (Entails.of_eq (barPay_rgt (F := F) c).symm) $$ [Hv6 Hv7 Hv8 Hv9 Hv10 Hv11]
  · iframe Hv6 Hv7 Hv8 Hv9 Hv10 Hv11
  iframe HR HBar HpL HpR HO HA HB Ha0 Hb0
  iintro ⟨Hp1, Hp2, HzB, HO, HA, HB, Ha0, Hb0⟩
  ihave Hp1 := (Entails.of_eq (rooms_true (F := F) c)) $$ Hp1
  ihave Hp2 := (Entails.of_eq (rooms_false (F := F) c)) $$ Hp2
  icases Hp1 with ⟨Hm0, Hm1, Hm2, Hm3, Hm4, Hm5⟩
  icases Hp2 with ⟨Hm6, Hm7, Hm8, Hm9, Hm10, Hm11⟩
  iapply (part3_run m K c v13)
  iframe HR HO HB Ha0 Hb0 Hb2 Hs0 Hm0 Ht0
  iintro ⟨HO, HB, Ha0, Hb0, Hb2, Hc0⟩
  iapply (part4_run m K c v24)
  iframe HR HO HB Ha0 Hb2 Hb1 Hs6 Hm6 Ht6
  iintro ⟨HO, HB, Ha0, Hb2, Hb1, Hc6⟩
  iapply (part5_run m K c v13)
  iframe HR HO HB HA Hb1 Hb3 Ha1 Hs1 Hm1 Ht1
  iintro %v136 ⟨HO, HB, HA, Hb1, Hb3, Ha1, Hc1⟩
  iapply (part6_run m K c v24 v136)
  iframe HR HO HA Ha0 Ha1 Hb2 Hb3 Hs7 Hm7 Ht7
  iintro ⟨HO, HA, Ha0, Ha1, Hb2, Hb3, Hc7⟩
  iapply (part7_run m K c v2 v13)
  iframe HR HO HA Ha0 Hb0 Hs8 Hs2 Hm2 Ht2
  iintro %v190 ⟨HO, HA, Ha0, Hb0, Hs8, Hc2⟩
  iapply (part8_run m K c v13 v24 v190)
  iframe HR HO Ha1 Hb3 Hs3 Hs8 Hm8 Ht8
  iintro ⟨HO, Ha1, Hb3, Hs3, Hc8⟩
  iapply (part9_run m K c v24)
  iframe HR HO Ha0 Ha1 Hb0 Hb1 Hs3 Hm3 Ht3 Hs9 Hm9 Ht9 Hs4
  iintro ⟨HO, Ha0, Ha1, Hb0, Hb1, Hs4, Hc3, Hc9⟩
  iapply (part10_run m c v13)
  iframe Ha0 Ha1 Hb1 Hb2 Hb3 Hs10 Hs5 Hs11
  iintro %v271 ⟨Ha0, Ha1, Hb1, Hb2, Hb3, Hs10, Hs5, Hs11⟩
  iapply (part11_run m K c v13 v24 v271)
  iframe HR HO Hr0 Hs4 Hm4 Ht4
  iintro ⟨HO, Hz0, Hv0, Hc4⟩
  iapply (part12_run m K c v13 v24)
  iframe HR HO Hr6 Hs10 Hm10 Ht10
  iintro ⟨HO, Hz6, Hv6, Hc10⟩
  iapply (part13_run m K c v13 v24)
  iframe HR HO Hr1 Hs5 Hm5 Ht5
  iintro ⟨HO, Hz1, Hv1, Hc5⟩
  ihave Ha1 := held_some $$ Ha1
  iapply (part14_run m K c v24)
  iframe HR HO Hr7 Hs11 Hm11 Ht11 HA Ha1
  iintro ⟨HO, Hz7, Hv7, Hc11, HA, Ha1⟩
  ihave Hb0 := (half_join m c 0 0 1 rfl rfl) $$ [Hb0 Hb1]
  · iframe Hb0 Hb1
  ihave Hb1 := (half_join m c 1 2 3 rfl rfl) $$ [Hb2 Hb3]
  · iframe Hb2 Hb3
  iapply (part15_run m K c v24)
  iframe HR HO Ha1 Hb0 Hb1 Ho0 Ho1 Hr8
  iintro ⟨HO, Ha1, Hb0, Hb1, Ho0, Ho1, Hv8⟩
  iapply (part16_run m K c v13)
  iframe HR HO Ho0 Hv8 Hr9 Hr4 Hr5
  iintro ⟨HO, Ho0, H2, H4, Hz8, Hz9, Hz4, Hz5⟩
  iapply (part17_run m K c v13 v24)
  iframe HR HO Ho0 Hr2 Hr3
  iintro ⟨HO, Ho0, Hv2, Hv3⟩
  iapply (part18_run m K c v24)
  iframe HR HO Ho1 Hv2 Hv3 Hr10 Hr11 Hc0
  iintro ⟨HO, Ho1, H5, H1, Hz2, Hz3, Hz10, Hz11, Hw0⟩
  iapply (part19_run m K c)
  iframe HR HO Hc1 Hc2 Hc3
  iintro ⟨HO, Hw1, Hw2, Hw3⟩
  iapply (part20_run m K c)
  iframe HR HO Hc4 Hc5 Hc6 Hc7
  iintro ⟨HO, Hw4, Hw5, Hw6, Hw7⟩
  iapply (step_swait m K c 8 (S := vPc 8) (D := sPc 8) rfl rfl) $$ [Hc8 HO]
  · iframe HR Hc8 HO
  iintro ⟨Hy8, Hs8, HO⟩
  iapply (step_swait m K c 9 (S := vPc 9) (D := sPc 9) rfl rfl) $$ [Hc9 HO]
  · iframe HR Hc9 HO
  iintro ⟨Hy9, Hs9, HO⟩
  iapply (step_swait m K c 10 (S := vPc 10) (D := sPc 10) rfl rfl) $$ [Hc10 HO]
  · iframe HR Hc10 HO
  iintro ⟨Hy10, Hs10, HO⟩
  iapply (step_ret c)
  iapply (step_swait m K c 11 (S := vPc 11) (D := sPc 11) rfl rfl) $$ [Hc11 HO]
  · iframe HR Hc11 HO
  iintro ⟨Hy11, Hs11, HO⟩
  iapply (step_ret c)
  iapply Hk
  ihave ⟨Hv2, Hv3⟩ := (slot_cut m c 1 2 3 rfl rfl) $$ H1
  ihave ⟨Hv4, Hv5⟩ := (slot_cut m c 2 4 5 rfl rfl) $$ H2
  ihave ⟨Hv8, Hv9⟩ := (slot_cut m c 4 8 9 rfl rfl) $$ H4
  ihave ⟨Hv10, Hv11⟩ := (slot_cut m c 5 10 11 rfl rfl) $$ H5
  ihave Ho := (out_join c (OL m c) (OR m c)) $$ [Ho0 Ho1]
  · iframe Ho0 Ho1
  ihave Ha0 := held_some $$ Ha0
  ihave Ha1 := held_some $$ Ha1
  ihave Hb0 := held_some $$ Hb0
  ihave Hb1 := held_some $$ Hb1
  unfold bodyEnd OUT
  simp only [sep_fin2, sep_fin12]
  iframe HO HzB HA HB Ha0 Ha1 Hb0 Hb1 Hv0 Hv1 Hv2 Hv3 Hv4 Hv5 Hv6 Hv7 Hv8 Hv9 Hv10 Hv11 Ho
  iframe Hz0 Hz1 Hz2 Hz3 Hz4 Hz5 Hz6 Hz7 Hz8 Hz9 Hz10 Hz11 Hw0 Hw1 Hw2 Hw3 Hw4 Hw5 Hw6 Hw7
  iframe Hy8 Hs8 Hy9 Hs9 Hy10 Hs10 Hy11 Hs11

end Cert.RingProof

end
-- ==== Proof.Launch.lean ====
/-
The launch of the kernel on the four devices: every run ends, with the result `OUT` on each device, the arguments
  unchanged and every semaphore at zero.
-/
module

public import proofs.«01_k».proof.Proof.Ghost
public import proofs.«01_k».proof.Proof.Body
public import proofs.«01_k».proof.Proof.Joins
public import Idealize.ShloMosaic.Lib.Pipeline.CollectiveSegs
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The pipeline's proof data -/

/-- What device `c`'s body starts from besides its scratch buffers. -/
def start (c : Dev nD) : sProp 𝕄 :=
  iprop(G' m c ∗ levAts L lv ∗ (cred (tallyAt (barCell c) () 2) ∗ bigSep Finset.univ fun j => cred (tallyAt (recvCell c j) () N))
    ∗ aPts m c ∗ bPts m c)

/-- What it gives back besides its scratch buffers and its own semaphores. -/
def finish (c : Dev nD) : sProp 𝕄 := iprop(unscopedSems0 c ∗ aPts m c ∗ bPts m c)

def dats (_ : Fin 1) (c : Dev nD) : Dat τ (Elt F) Unit ℕ UU ℕ cfg0 c where
  A w := m ((cfg0.win w).arr.view.loc (c : Thread nD τ))
  after w _ := match w with
    | ⟨0, _⟩ => OUT m c
  Φ t := match t with
    | ⟨0, _⟩ => iprop(start m c ∗ Pipeline.scopedRest cfg0.spec c)
    | ⟨_ + 1, _⟩ => iprop(finish m c ∗ Pipeline.ownSems0 osem c ∗ Pipeline.scopedRest cfg0.spec c)
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

/-! ## The body's obligation -/

/-- The rights of the launch, sorted by the transfers they are for. -/
theorem rights_intro (K : Dev nD × Fin 25 → ℕ) (c : Dev nD) :
    iprop(marks m K ∗ own (F := F) c ∗ levAts L lv ∗ (cred (tallyAt (barCell c) () 2) ∗ bigSep Finset.univ fun j => cred (tallyAt (recvCell c j) () N)))
      ⊢ iprop(recs m K ∗ toBar c ∗ (bigSep Finset.univ fun j => toSend (F := F) c j) ∗ (bigSep Finset.univ fun j => toRecv (F := F) c j)
          ∗ idles c) := by
  unfold marks recs own payToks toBar toSend toRecv
  rw [sep_cells]
  simp only [bigSep_sep']
  iintro ⟨⟨HI, HR⟩, ⟨⟨HaB, HaS, HaV⟩, ⟨H1, H2, H3, H4⟩, Hid⟩, Hlev, HcB, HcV⟩
  isplitl [HI HR Hlev]; · iframe HI HR Hlev
  isplitl [HaB H1 H2 HcB]
  · isplitl [HaB]; · iexact HaB
    iframe H1 H2 HcB
  isplitl [H3 H4 HaS]
  · isplitl [H3]; · iexact H3
    isplitl [H4]; · iexact H4
    iexact HaS
  isplitl [HcV HaV]
  · isplitl [HcV]; · iexact HcV
    iexact HaV
  iexact Hid

/-- The scratch buffers and the result's staging buffer, cut into the body's rectangles. -/
theorem body_intro (K : Dev nD × Fin 25 → ℕ) (c : Dev nD) (f : Buf (Elt F) ((c : Thread nD τ).loc cc0_stg0_0)) :
    iprop((marks m K ∗ own (F := F) c) ∗ levAts L lv ∗ (cred (tallyAt (barCell c) () 2) ∗ bigSep Finset.univ fun j => cred (tallyAt (recvCell c j) () N))
        ∗ aPts m c ∗ bPts m c ∗ Pipeline.scopedRest cfg0.spec c ∗ owed c (O₀ c) ∗ (((c : Thread nD τ).loc cc0_stg0_0) ↦{fullShare} f))
      ⊢ bodyPre m K c := by
  unfold bodyPre idleA idleB stA stB
  rw [scopedRest0_eq]
  iintro ⟨⟨HM, Hown⟩, Hlev, Hcr, Ha, Hb, ⟨H0, H1, H2, H3, H4, H5⟩, HO, Hout⟩
  ihave ⟨HR, HBar, Hts, Htr, Hid⟩ := (rights_intro m K c) $$ [HM Hown Hlev Hcr]
  · iframe HM Hown Hlev Hcr
  unfold idles
  icases Hid with ⟨HzA, HzB⟩
  ihave H0 := (parts_piece.cut (b := cc0_scratch0) c) $$ H0
  ihave H1 := (parts_piece.cut (b := cc0_scratch1) c) $$ H1
  ihave H3 := (parts_a16.cut (b := cc0_scratch3) c) $$ H3
  ihave H5 := (parts_bcol.cut (b := cc0_scratch5) c) $$ H5
  ihave Hout := (parts_ohalf.cut (b := cc0_stg0_0) c) $$ [Hout]
  · iexists f; iexact Hout
  isplitl [HR]; · iexact HR
  isplitl [HBar]; · iexact HBar
  isplitl [HO]; · iexact HO
  isplitl [Ha H2 HzA]
  · isplitl [Ha]; · iexact Ha
    isplitl [H2] <;> iassumption
  isplitl [Hb H4 HzB]
  · isplitl [Hb]; · iexact Hb
    isplitl [H4] <;> iassumption
  iframe H3 H5 H0 H1 Hout Hts Htr

/-- The body's rectangles joined again. -/
theorem body_exit (c : Dev nD) :
    bodyEnd m c ⊢ iprop((finish m c ∗ Pipeline.ownSems0 osem c ∗ Pipeline.scopedRest cfg0.spec c) ∗ owed c (Os c [])
      ∗ (((c : Thread nD τ).loc cc0_stg0_0) ↦{fullShare} OUT m c)) := by
  unfold bodyEnd finish idleA idleB stA stB
  rw [scopedRest0_eq, ownSems0_eq, unscopedSems0_eq]
  simp only [bigSep_sep']
  iintro ⟨HO, HzR, ⟨Ha, H2, HzA⟩, ⟨Hb, H4, HzB⟩, H3, H5, H1, Hout, HzV, HzS, H0⟩
  ihave H0 := (parts_piece.join (b := cc0_scratch0) c m) $$ H0
  ihave H1 := (parts_piece.join (b := cc0_scratch1) c m) $$ H1
  ihave H3 := (parts_a16.join (b := cc0_scratch3) c m) $$ H3
  ihave H5 := (parts_bhalf.join (b := cc0_scratch5) c m) $$ H5
  isplitr [HO Hout]
  · isplitl [HzR Ha Hb]
    · isplitl [HzR]; · iexact HzR
      isplitl [Ha] <;> iassumption
    isplitl [HzS HzV HzA HzB]
    · isplitl [HzS]; · iexact HzS
      isplitl [HzV]; · iexact HzV
      isplitl [HzA] <;> iassumption
    isplitl [H0]; · iexact H0
    isplitl [H1]; · iexact H1
    isplitl [H2]; · iexact H2
    isplitl [H3]; · iexact H3
    isplitl [H4]; · iexact H4
    iexact H5
  isplitl [HO]; · iexact HO
  iexact Hout

/-- The staging buffer of the result at a value. -/
abbrev stg (c : Dev nD) (X : S768x3072.Idx → Elt F .bf16) : sProp 𝕄 :=
  iprop(∃ f : Buf (Elt F) ((c : Thread nD τ).loc cc0_stg0_0), ⌜f = X⌝ ∗ (((c : Thread nD τ).loc cc0_stg0_0) ↦{fullShare} f))

set_option maxRecDepth 16384 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show iprop((start m c ∗ Pipeline.scopedRest cfg0.spec c) ∗ (dats m 0 c).owesAt () t0_0.castSucc
      ∗ (∃ d, stg c ((dats m 0 c).before (0 : Fin 1) t0_0 d)))
    ⊢ run c (atArgs (cc0_body (F := F))) fun _ =>
      iprop((finish m c ∗ Pipeline.ownSems0 osem c ∗ Pipeline.scopedRest cfg0.spec c) ∗ (dats m 0 c).owesAt () t0_0.succ ∗ stg c (OUT m c))
  unfold start G' Dat.owesAt Pipeline.owesWithin
  iintro ⟨⟨⟨⟨%K, HG⟩, Hlev, Hcr, Ha, Hb⟩, Hsc⟩, ⟨%W, %hW, HO⟩, ⟨%d, %f, %hf, Hout⟩⟩
  iapply (body_run m K c _)
  isplitr []
  · iapply (body_intro m K c f)
    isplitl [HG]; · iexact HG
    isplitl [Hlev]; · iexact Hlev
    isplitl [Hcr]; · iexact Hcr
    isplitl [Ha]; · iexact Ha
    isplitl [Hb]; · iexact Hb
    isplitl [Hsc]; · iexact Hsc
    isplitl [HO]; · unfold owed; iexists W; iexact HO
    iexact Hout
  · iintro H
    ihave ⟨Hend, HO, Hout⟩ := (body_exit m c) $$ H
    isplitl [Hend]; · iexact Hend
    isplitl [HO]
    · unfold owed
      icases HO with ⟨%W', HO⟩
      iexists W'
      isplitr; · ipureintro; exact fun _ _ => Or.inl trivial
      iexact HO
    iexists _
    isplitr; · (ipureintro; rfl)
    iexact Hout

/-! ## The launch's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hb⟩, Hlev, Hcr, -, HG⟩
  ihave Hc := (creds (F := F) c) $$ Hcr
  imodintro
  unfold start aPts bPts
  iframe HG Hlev Hc Ha Hb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What a final state's memory and semaphores are read off. -/
def QY (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

theorem finish_read (c : Dev nD) (s' : Phys nD τ sig (Elt F)) :
    iprop(finish m c ∗ emp ∗ SI s') ⊢ |={Set.univ}=> (iprop(⌜QY m c s'.mem⌝ ∗ SI s') : sProp 𝕄) := by
  unfold finish aPts bPts
  iintro ⟨⟨Hu, Ha, Hb⟩, -, HSI⟩
  ihave H := (persistent_entails_right (SI_pointsTo_agree (st := s') (ℓ := (c : Thread nD τ).loc main_arg0) (I := Finset.univ) (q := fullShare)
    (f := m ((c : Thread nD τ).loc main_arg0)))) $$ [HSI Ha]
  · iframe HSI Ha
  icases H with ⟨%ha, HSI, -⟩
  ihave H := (persistent_entails_right (SI_pointsTo_agree (st := s') (ℓ := (c : Thread nD τ).loc main_arg1) (I := Finset.univ) (q := fullShare)
    (f := m ((c : Thread nD τ).loc main_arg1)))) $$ [HSI Hb]
  · iframe HSI Hb
  icases H with ⟨%hb, HSI, -⟩
  imod (Pipeline.unscopedSems0_read (X := unscopedSems0 c) (c := c) fupd_intro s') $$ [Hu HSI] with ⟨%hz, HSI⟩
  · iframe Hu HSI
  imodintro
  isplitr
  · ipureintro
    exact ⟨⟨funext fun i => ha i (Finset.mem_univ i), funext fun i => hb i (Finset.mem_univ i)⟩, hz⟩
  iexact HSI

/-! ## The result array -/

/-- The one block is the whole array. -/
theorem cut_eq (X : S768x3072.Idx → Elt F .bf16) : (cfg0.win 0).cut (cfg0.grid.coords t0_0) X = ((cfg0.win 0).blk t0_0).view.read (Elt F) X := by
  funext i
  show X _ = X _
  refine congrArg X (funext fun a => Fin.ext ?_)
  have e : ∀ a, win0_0.index t0_0 a * win0_0.size a = 0 := by decide +kernel
  show (i a).val = win0_0.index t0_0 a * win0_0.size a + 1 * (i a).val
  rw [e a]; omega

theorem flushed_eq (c : Dev nD) (t : Fin cfg0.N) :
    (dats m 0 c).flushed 0 t = ((cfg0.win 0).blk t).view.read (Elt F) (OUT m c) := by
  obtain rfl := fin_N0 t
  have ha : (dats m 0 c).after 0 t0_0 = OUT m c := rfl
  unfold Pipeline.Dat.flushed
  rw [ha]
  exact cut_eq _

theorem blk_univ (i : S768x3072.Idx) : ∃ t : Fin cfg0.N, (cfg0.win 0).flush t = true ∧ i ∈ ((cfg0.win 0).blk t).view.set := by
  have b0 : (i 0).val < 768 := (i 0).isLt
  have b1 : (i 1).val < 3072 := (i 1).isLt
  refine ⟨t0_0, flush0_0 _, ?_⟩
  show i ∈ ((View.whole main_v1).slice (win0_0.rect t0_0)).set
  rw [View.set_slice_whole, Rect.mem_set_unit]
  have e : (∀ a, win0_0.index t0_0 a * win0_0.size a = 0) ∧ win0_0.xsize (grid0.coords t0_0) 0 = 768
      ∧ win0_0.xsize (grid0.coords t0_0) 1 = 3072 := by decide +kernel
  intro a
  show win0_0.index t0_0 a * win0_0.size a ≤ (i a).val ∧ (i a).val < win0_0.index t0_0 a * win0_0.size a + win0_0.xsize (grid0.coords t0_0) a
  rw [e.1 a]
  match a with
  | 0 => rw [e.2.1]; omega
  | 1 => rw [e.2.2]; omega

theorem result_eq (c : Dev nD) : (dats m 0 c).arrAt 0 cfg0.N = OUT m c :=
  (dats m 0 c).arrAt_eq_of_cover 0 (OUT m c) (fun t _ => flushed_eq m c t) blk_univ

/-! ## The run -/

/-- What every final state satisfies. -/
def Done (r : PUnit × MemSt nD τ sig (Elt F)) : Prop :=
  (∀ c : Dev nD, r.2.mem ((c : Thread nD τ).loc main_v1) = OUT m c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

/-- The ring's share of the launch element. -/
theorem ring_own : BI.own (embR (initOf ringCells ringToks, (1 : Counters)) : 𝕄) ⊢ (BI.own (ER (initOf ringCells ringToks)) : sProp 𝕄) :=
  Entails.of_eq rfl

theorem run_main (ρ : Dev nD → PrngReg) : θ_run defs (onTc (τ := τ) (main (F := F))) ⟨m, fun _ => 0, ρ⟩ (Done m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (ring_own (F := F)) $$ HX
      imod (fund_ring m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ)
    (hin := fun c => by
      show iprop(start m c ∗ _ ∗ Pipeline.scopedRest cfg0.spec c) ⊢ iprop(start m c ∗ Pipeline.scopedRest cfg0.spec c)
      iintro ⟨H, -, HS⟩; isplitl [H] <;> iassumption)
    (hout := fun c => .rfl)
    (QY := QY m) (hY := finish_read m)
    (hQ := fun s h hs => ⟨fun c => ⟨((h c).1 0).trans (result_eq m c), (h c).2.2.1⟩, sem_eq_zero hs fun c => (h c).2.2.2⟩)

end Cert.RingProof

end
-- ==== Proof.Value.lean ====
/-
  What the kernel's result is, entry by entry, over the extended reals: on device `c` the entry at row `r` and column
  `t` is the sum, over the four devices, of their products of row `r` of row block `c` of their block of `A` and column
  `t` of their block of `B`.
-/
module

public import proofs.«01_k».proof.Proof.Body
public import Idealize.ShloMosaic.Lib.MatmulPlain
public import Idealize.ShloMosaic.Lib.ValueIdx
public import Idealize.ShloMosaic.Lib.ValueLayout
public import Mathlib.Tactic.Abel

@[expose] public section

noncomputable section

namespace Cert.RingProof

open Cert.KernelIdeal Cert.KernelIdeal.Gen
open Idealize.ShloMosaic
open Idealize.ShloMosaic.TcCoe
open Idealize.ShloMosaic.ValueIdx
open scoped BigOperators

/-! ## The operations of the body at an entry -/

section Operations

/-- A product of a staged row block and a block of columns, into zero. -/
theorem dot_apply {N : ℕ} (x : Vec Ideal S1x768x1536 .bf16) (y : Vec Ideal ⟨2, ![1536, N]⟩ .bf16) (r : Fin 768) (t : Fin N) :
    matmul (F := Ideal) (φ₁ := .bf16) (φ₂ := .bf16) (DotDims.plain 768 1536 N) none
        (shapeCast S768x1536 x shapeCasts_S1x768x1536_S768x1536) y (constant ⟨2, ![768, N]⟩ .f32 0x00000000#32) (ix2 r t)
      = ∑ k : Fin 1536, x (ix3 (0 : Fin 1) r k) * y (ix2 k t) := by
  refine (Ideal.matmul_plain_apply none _ y _ r t).trans ?_
  rw [constant_apply, Ideal.ofBits_zero_f32, zero_add]
  exact Finset.sum_congr rfl fun k _ => congrArg (· * y (ix2 k t)) (shapeCast_1ab_ab_apply x _ r k)

theorem pay1_apply (x : FVec Ideal S768x1536 .f32) (u : Fin 1) (r : Fin 768) (k : Fin 1536) :
    k0_pay1 (F := Ideal) x (ix3 u r k) = (x (ix2 r k) : EReal) := shapeCast_ab_1ab_apply (truncf .bf16 x bitsLt_bf16_f32) shapeCasts_S768x1536_S1x768x1536 u r k

theorem pay2_apply (x : FVec Ideal S1536x768 .f32) (i : S1536x768.Idx) : k0_pay2 (F := Ideal) x i = (x i : EReal) :=
  congrFun (shapeCast_self (truncf .bf16 x bitsLt_bf16_f32) shapeCasts_S1536x768_S1536x768) i

theorem pay3_apply (x : Vec Ideal S1x768x1536 .bf16) (y : Vec Ideal S1536x768 .bf16) (u : Fin 1) (r t : Fin 768) :
    k0_pay3 x y (ix3 u r t) = ∑ k : Fin 1536, x (ix3 (0 : Fin 1) r k) * y (ix2 k t) :=
  (shapeCast_ab_1ab_apply _ shapeCasts_S768x768_S1x768x768 u r t).trans (dot_apply x y r t)

theorem pay23_apply (x y : Vec Ideal S1x768x768 .bf16) (u : Fin 1) (r t : Fin 768) :
    k0_pay23 x y (ix3 u r t) = x (ix3 (0 : Fin 1) r t) + y (ix3 (0 : Fin 1) r t) := by
  refine (shapeCast_ab_1ab_apply (addf (F := Ideal) (φ := .bf16) (shapeCast S768x768 x shapeCasts_S1x768x768_S768x768)
    (shapeCast S768x768 y shapeCasts_S1x768x768_S768x768)) shapeCasts_S768x768_S1x768x768 u r t).trans ?_
  exact congrArg₂ (· + ·) (shapeCast_1ab_ab_apply x _ r t) (shapeCast_1ab_ab_apply y _ r t)

theorem pay31_apply (x : Vec Ideal S1x768x1536 .bf16) (r : Fin 768) (t : Fin 1536) :
    shapeCast S768x1536 x shapeCasts_S1x768x1536_S768x1536 (ix2 r t) = x (ix3 (0 : Fin 1) r t) := shapeCast_1ab_ab_apply x _ r t

theorem pay33_apply (o : Vec Ideal S768x1536 .bf16) (x y : Vec Ideal S1x768x1536 .bf16) (r : Fin 768) (t : Fin 1536) :
    k0_pay33 (k0_pay30 o) (k0_pay31 x) (k0_pay32 y) (ix2 r t)
      = o (ix2 r t) + (x (ix3 (0 : Fin 1) r t) + y (ix3 (0 : Fin 1) r t)) :=
  congrArg₂ (· + ·) (congrFun (shapeCast_self o _) _) (congrArg₂ (· + ·) (pay31_apply x r t) (pay31_apply y r t))

theorem pay34_apply (o : Vec Ideal S768x1536 .bf16) (x y : Vec Ideal S1x768x1536 .bf16) (r : Fin 768) (t : Fin 1536) :
    k0_pay34 o x y (ix2 r t) = o (ix2 r t) + (x (ix3 (0 : Fin 1) r t) + y (ix3 (0 : Fin 1) r t)) :=
  congrArg₂ (· + ·) (congrFun (shapeCast_self o _) _) (congrArg₂ (· + ·) (pay31_apply x r t) (pay31_apply y r t))

end Operations

/-! ## The contents of the buffers at an entry -/

variable (m : (ℓ : Loc nD τ sig) → Buf (Elt Ideal) ℓ)

/-- Device `c`'s block of `A`, and its block of `B`. -/
def blkA (c : Dev nD) : FVec Ideal S3072x1536 .f32 := m ((c : Thread nD τ).loc main_arg0)
def blkB (c : Dev nD) : FVec Ideal S1536x3072 .f32 := m ((c : Thread nD τ).loc main_arg1)

/-- Row `r` of row block `d` in the whole of `A`'s rows. -/
abbrev rowOf (d : Dev nD) (r : Fin 768) : Fin 3072 := ⟨768 * d.val + r.val, by have h : d.val < 4 := d.isLt; have := r.isLt; omega⟩

/-- Device `c`'s product of row `r` of row block `d` and column `t`. -/
def prodAt (c d : Dev nD) (r : Fin 768) (t : Fin 3072) : EReal :=
  ∑ k : Fin 1536, blkA m c (ix2 (rowOf d r) k) * blkB m c (ix2 k t)

theorem AR_apply (c d : Dev nD) (r : Fin 768) (k : Fin 1536) : AR m c d (ix2 r k) = blkA m c (ix2 (rowOf d r) k) := by
  show m ((c : Thread nD τ).loc main_arg0) _ = m ((c : Thread nD τ).loc main_arg0) _
  refine congrArg _ (funext fun a => Fin.ext ?_)
  match a with
  | ⟨0, _⟩ => show 768 * d.val + 1 * r.val = 768 * d.val + r.val; omega
  | ⟨1, _⟩ => show 0 + 1 * k.val = k.val; omega

theorem BQ_apply (c : Dev nD) (q : Fin 4) (k : Fin 1536) (t : Fin 768) (s : Fin 3072) (hs : s.val = 768 * q.val + t.val) :
    BQ m c q (ix2 k t) = blkB m c (ix2 k s) := by
  show m ((c : Thread nD τ).loc main_arg1) _ = m ((c : Thread nD τ).loc main_arg1) _
  refine congrArg _ (funext fun a => Fin.ext ?_)
  match a with
  | ⟨0, _⟩ => show 0 + 1 * k.val = k.val; omega
  | ⟨1, _⟩ => show 768 * q.val + 1 * t.val = s.val; omega

theorem A16_apply (c d : Dev nD) (u : Fin 1) (r : Fin 768) (k : Fin 1536) :
    A16 m c d (ix3 u r k) = (blkA m c (ix2 (rowOf d r) k) : EReal) := (pay1_apply (AR m c d) u r k).trans (AR_apply m c d r k)

theorem part_apply (c d : Dev nD) (q : Fin 4) (u : Fin 1) (r t : Fin 768) (s : Fin 3072) (hs : s.val = 768 * q.val + t.val) :
    part m c d q (ix3 u r t) = prodAt m c d r s := by
  refine (pay3_apply _ _ u r t).trans (Finset.sum_congr rfl fun k _ => congrArg₂ (· * ·) (A16_apply m c d 0 r k) ?_)
  exact (pay2_apply (BQ m c q) _).trans (BQ_apply m c q k t s hs)

theorem BH_apply (c : Dev nD) (h : Fin 2) (k t : Fin 1536) (s : Fin 3072) (hs : s.val = 1536 * h.val + t.val) :
    BH m c h (ix2 k t) = (blkB m c (ix2 k s) : EReal) := by
  have e : BH m c h (ix2 k t) = BG m c (ix2 k s) := by
    show BG m c _ = BG m c _
    refine congrArg _ (funext fun a => Fin.ext ?_)
    match a with
    | ⟨0, _⟩ => show 0 + 1 * k.val = k.val; omega
    | ⟨1, _⟩ => show 1536 * h.val + 1 * t.val = s.val; omega
  have := s.isLt
  refine e.trans ((pay2_apply (BQ m c ⟨s.val / 768, by omega⟩) _).trans ?_)
  refine Eq.trans (congrArg _ (eq_ix2 (n0 := 1536) (n1 := 768) _)) (BQ_apply m c ⟨s.val / 768, by omega⟩ k ⟨s.val % 768, by omega⟩ s ?_)
  show s.val = 768 * (s.val / 768) + s.val % 768; omega

theorem RS_apply (c : Dev nD) (k : Fin 6) (r : Fin 768) (t : Fin 1536) (j : Fin 12) (s : Fin 768)
    (h : 1536 * k.val + t.val = 768 * j.val + s.val) :
    RS m c k (ix3 (0 : Fin 1) r t) = recvV m c j (ix3 (0 : Fin 1) r s) := by
  have e : RS m c k (ix3 (0 : Fin 1) r t) = VG m c (ix3 k r t) := by
    show VG m c _ = VG m c _
    refine congrArg _ (funext fun a => Fin.ext ?_)
    match a with
    | ⟨0, _⟩ => show k.val + 1 * 0 = k.val; omega
    | ⟨1, _⟩ => show 0 + 1 * r.val = r.val; omega
    | ⟨2, _⟩ => show 0 + 1 * t.val = t.val; omega
  have := t.isLt
  have := s.isLt
  refine e.trans ?_
  have hj : j = ⟨2 * k.val + t.val / 768, by have := k.isLt; omega⟩ := Fin.ext (by show j.val = 2 * k.val + t.val / 768; omega)
  have hs : s = ⟨t.val % 768, by omega⟩ := Fin.ext (by show s.val = t.val % 768; omega)
  refine Eq.trans ?_ (congrArg₂ (fun j s => recvV m c j (ix3 (0 : Fin 1) r s)) hj.symm hs.symm)
  exact congrArg (recvV m c ⟨2 * k.val + t.val / 768, _⟩) (eq_ix3 (n0 := 1) (n1 := 768) (n2 := 768) _)

/-! ## The result at an entry -/

/-- A device's own term, the two that come in on one side and the one on the other are the four devices' terms. -/
theorem sum_ring (f : Dev nD → EReal) (c : Dev nD) :
    f c + ((f (lft c) + f (lft (lft c))) + f (rgt c)) = ∑ d : Dev nD, f d ∧ f c + ((f (rgt c) + f (rgt (rgt c))) + f (lft c)) = ∑ d : Dev nD, f d := by
  have e : ∑ d : Dev nD, f d = f 0 + f 1 + f 2 + f 3 := Fin.sum_univ_four f
  rw [e]
  match c with
  | 0 => exact ⟨by show f 0 + ((f 3 + f 2) + f 1) = _; abel, by show f 0 + ((f 1 + f 2) + f 3) = _; abel⟩
  | 1 => exact ⟨by show f 1 + ((f 0 + f 3) + f 2) = _; abel, by show f 1 + ((f 2 + f 3) + f 0) = _; abel⟩
  | 2 => exact ⟨by show f 2 + ((f 1 + f 0) + f 3) = _; abel, by show f 2 + ((f 3 + f 0) + f 1) = _; abel⟩
  | 3 => exact ⟨by show f 3 + ((f 2 + f 1) + f 0) = _; abel, by show f 3 + ((f 0 + f 1) + f 2) = _; abel⟩

/-- What comes in, entry by entry: of the slots 2 and 5 two products, … -/
theorem recv_two (c : Dev nD) (r s : Fin 768) (t : Fin 3072) (j : Fin 12) (n d : Dev nD) (q : Fin 4)
    (hV : recvV m c j = k0_pay23 (part m n c q) (part m d c q)) (ht : t.val = 768 * q.val + s.val) :
    recvV m c j (ix3 (0 : Fin 1) r s) = prodAt m n c r t + prodAt m d c r t := by
  rw [hV, pay23_apply, part_apply m n c q 0 r s t ht, part_apply m d c q 0 r s t ht]

/-- … of the slots 4 and 1 one. -/
theorem recv_one (c : Dev nD) (r s : Fin 768) (t : Fin 3072) (j : Fin 12) (n : Dev nD) (q : Fin 4)
    (hV : recvV m c j = part m n c q) (ht : t.val = 768 * q.val + s.val) :
    recvV m c j (ix3 (0 : Fin 1) r s) = prodAt m n c r t := by
  rw [hV, part_apply m n c q 0 r s t ht]

theorem recvV_4 (c : Dev nD) : recvV m c 4 = k0_pay23 (part m (lft c) c 0) (part m (lft (lft c)) c 0) := by
  show k0_pay23 (part m (lft c) (rgt (lft c)) 0) (part m (lft (lft c)) (rgt (lft c)) 0) = _; rw [rgt_lft]
theorem recvV_5 (c : Dev nD) : recvV m c 5 = k0_pay23 (part m (lft c) c 1) (part m (lft (lft c)) c 1) := by
  show k0_pay23 (part m (lft c) (rgt (lft c)) 1) (part m (lft (lft c)) (rgt (lft c)) 1) = _; rw [rgt_lft]
theorem recvV_8 (c : Dev nD) : recvV m c 8 = part m (rgt c) c 0 := by
  show part m (rgt c) (lft (rgt c)) 0 = _; rw [lft_rgt]
theorem recvV_9 (c : Dev nD) : recvV m c 9 = part m (rgt c) c 1 := by
  show part m (rgt c) (lft (rgt c)) 1 = _; rw [lft_rgt]
theorem recvV_10 (c : Dev nD) : recvV m c 10 = k0_pay23 (part m (rgt c) c 2) (part m (rgt (rgt c)) c 2) := by
  show k0_pay23 (part m (rgt c) (lft (rgt c)) 2) (part m (rgt (rgt c)) (lft (rgt c)) 2) = _; rw [lft_rgt]
theorem recvV_11 (c : Dev nD) : recvV m c 11 = k0_pay23 (part m (rgt c) c 3) (part m (rgt (rgt c)) c 3) := by
  show k0_pay23 (part m (rgt c) (lft (rgt c)) 3) (part m (rgt (rgt c)) (lft (rgt c)) 3) = _; rw [lft_rgt]
theorem recvV_2 (c : Dev nD) : recvV m c 2 = part m (lft c) c 2 := by
  show part m (lft c) (rgt (lft c)) 2 = _; rw [rgt_lft]
theorem recvV_3 (c : Dev nD) : recvV m c 3 = part m (lft c) c 3 := by
  show part m (lft c) (rgt (lft c)) 3 = _; rw [rgt_lft]

/-- The device's own product, in either half. -/
theorem own_apply (c : Dev nD) (h : Fin 2) (r : Fin 768) (t : Fin 1536) (s : Fin 3072) (hs : s.val = 1536 * h.val + t.val) :
    matmul (F := Ideal) (φ₁ := .bf16) (φ₂ := .bf16) (DotDims.plain 768 1536 1536) none
        (shapeCast S768x1536 (A16 m c c) shapeCasts_S1x768x1536_S768x1536) (BH m c h) (constant S768x1536 .f32 0x00000000#32) (ix2 r t)
      = prodAt m c c r s :=
  (dot_apply _ _ r t).trans
    (Finset.sum_congr rfl fun k _ => congrArg₂ (· * ·) (A16_apply m c c 0 r k) (BH_apply m c h k t s hs))

/-- The left half of the result: columns below 1536. -/
theorem OL_apply (c : Dev nD) (r : Fin 768) (t : Fin 1536) (s : Fin 3072) (hs : s.val = t.val) :
    OL m c (ix2 r t) = ∑ d : Dev nD, prodAt m d c r s := by
  have ht := t.isLt
  refine (pay33_apply (OL0 m c) (RS m c 2) (RS m c 4) r t).trans (Eq.trans ?_ (sum_ring (fun d => prodAt m d c r s) c).1)
  refine congrArg₂ (· + ·) (own_apply m c 0 r t s (by show s.val = 1536 * 0 + t.val; omega)) (congrArg₂ (· + ·) ?_ ?_)
  · by_cases h : t.val < 768
    · exact (RS_apply m c 2 r t 4 ⟨t.val, h⟩ rfl).trans (recv_two m c r _ s 4 _ _ 0 (recvV_4 m c) (by show s.val = 768 * 0 + t.val; omega))
    · exact (RS_apply m c 2 r t 5 ⟨t.val - 768, by omega⟩ (by show 1536 * 2 + t.val = 768 * 5 + (t.val - 768); omega)).trans
        (recv_two m c r _ s 5 _ _ 1 (recvV_5 m c) (by show s.val = 768 * 1 + (t.val - 768); omega))
  · by_cases h : t.val < 768
    · exact (RS_apply m c 4 r t 8 ⟨t.val, h⟩ rfl).trans (recv_one m c r _ s 8 _ 0 (recvV_8 m c) (by show s.val = 768 * 0 + t.val; omega))
    · exact (RS_apply m c 4 r t 9 ⟨t.val - 768, by omega⟩ (by show 1536 * 4 + t.val = 768 * 9 + (t.val - 768); omega)).trans
        (recv_one m c r _ s 9 _ 1 (recvV_9 m c) (by show s.val = 768 * 1 + (t.val - 768); omega))

/-- The right half: columns from 1536 on. -/
theorem OR_apply (c : Dev nD) (r : Fin 768) (t : Fin 1536) (s : Fin 3072) (hs : s.val = 1536 + t.val) :
    OR m c (ix2 r t) = ∑ d : Dev nD, prodAt m d c r s := by
  have ht := t.isLt
  refine (pay34_apply (OR0 m c) (RS m c 5) (RS m c 1) r t).trans (Eq.trans ?_ (sum_ring (fun d => prodAt m d c r s) c).2)
  refine congrArg₂ (· + ·) (own_apply m c 1 r t s (by show s.val = 1536 * 1 + t.val; omega)) (congrArg₂ (· + ·) ?_ ?_)
  · by_cases h : t.val < 768
    · exact (RS_apply m c 5 r t 10 ⟨t.val, h⟩ rfl).trans (recv_two m c r _ s 10 _ _ 2 (recvV_10 m c) (by show s.val = 768 * 2 + t.val; omega))
    · exact (RS_apply m c 5 r t 11 ⟨t.val - 768, by omega⟩ (by show 1536 * 5 + t.val = 768 * 11 + (t.val - 768); omega)).trans
        (recv_two m c r _ s 11 _ _ 3 (recvV_11 m c) (by show s.val = 768 * 3 + (t.val - 768); omega))
  · by_cases h : t.val < 768
    · exact (RS_apply m c 1 r t 2 ⟨t.val, h⟩ rfl).trans (recv_one m c r _ s 2 _ 2 (recvV_2 m c) (by show s.val = 768 * 2 + t.val; omega))
    · exact (RS_apply m c 1 r t 3 ⟨t.val - 768, by omega⟩ (by show 1536 * 1 + t.val = 768 * 3 + (t.val - 768); omega)).trans
        (recv_one m c r _ s 3 _ 3 (recvV_3 m c) (by show s.val = 768 * 3 + (t.val - 768); omega))

/-- The result on device `c`, at row `r` and column `t`. -/
theorem OUT_apply (c : Dev nD) (r : Fin 768) (t : Fin 3072) : OUT m c (ix2 r t) = ∑ d : Dev nD, prodAt m d c r t := by
  have ht := t.isLt
  have e : OUT m c (ix2 r t) = (if t.val < 1536 then OL m c else OR m c) (ix2 r (⟨t.val % 1536, Nat.mod_lt _ (by decide)⟩ : Fin 1536)) :=
    congrArg (if t.val < 1536 then OL m c else OR m c) (eq_ix2 (n0 := 768) (n1 := 1536) _)
  rw [e]
  split
  · exact OL_apply m c r _ t (by show t.val = t.val % 1536; omega)
  · exact OR_apply m c r _ t (by show t.val = 1536 + t.val % 1536; omega)

end Cert.RingProof

end
-- ==== Proof.Equation.lean ====
/-
  The value equation: of the blocks of two whole matrices the kernel computes the blocks of their product. The sum over
  the 6144 contracted coordinates is cut into the four devices' 1536 each.
-/
module

public import proofs.«01_k».proof.Proof.Value
public import proofs.«01_k».proof.Proof.Gen.ReferenceIdeal
public import Idealize.ShloMosaic.Lib.StackMember
public import Idealize.ShloMosaic.Lib.Layout

@[expose] public section

noncomputable section

namespace Cert.RingProof

open Cert.KernelIdeal Cert.KernelIdeal.Gen
open Idealize.ShloMosaic
open Idealize.ShloMosaic.TcCoe
open Idealize.ShloMosaic.ValueIdx
open scoped BigOperators

/-- The contracted coordinate `k` of device `d`'s block in the whole. -/
abbrev contrOf (d : Fin 4) (k : Fin 1536) : Fin 6144 := ⟨1536 * d.val + k.val, by have := d.isLt; have := k.isLt; omega⟩

/-- A sum over the contracted coordinates is the sum of the devices' sums. -/
theorem sum_contr (g : Fin 6144 → EReal) : ∑ x : Fin 6144, g x = ∑ d : Fin 4, ∑ k : Fin 1536, g (contrOf d k) := by
  have e := Equiv.sum_comp (finProdFinEquiv.trans (finCongr (by norm_num : 4 * 1536 = 6144))) g
  refine e.symm.trans ((Fintype.sum_prod_type _).trans (Finset.sum_congr rfl fun d _ => Finset.sum_congr rfl fun k _ => congrArg g (Fin.ext ?_)))
  show k.val + 1536 * d.val = 1536 * d.val + k.val
  omega

variable (m : (ℓ : Loc nD τ sig) → Buf (Elt Ideal) ℓ) (A : FVec Ideal ⟨2, ![3072, 6144]⟩ .f32) (B : FVec Ideal ⟨2, ![6144, 3072]⟩ .f32)

/-- The product of the whole matrices, narrowed: what the reference computes. -/
abbrev whole : FVec Ideal ⟨2, ![3072, 3072]⟩ .bf16 :=
  truncf .bf16 (Host.dotGeneral (F := Ideal) (φ₁ := .f32) (φ₂ := .f32) (DotDims.plain 3072 6144 3072) none A B) (by decide)

theorem out_block
    (hA : ∀ d : Dev nD, m ((d : Thread nD τ).loc main_arg0) = Layout.block ⟨2, ![3072, 1536]⟩ ⟨2, ![3072, 6144]⟩ 1 4 d A)
    (hB : ∀ d : Dev nD, m ((d : Thread nD τ).loc main_arg1) = Layout.block ⟨2, ![1536, 3072]⟩ ⟨2, ![6144, 3072]⟩ 0 4 d B) (c : Dev nD) :
    OUT m c = Layout.block ⟨2, ![768, 3072]⟩ ⟨2, ![3072, 3072]⟩ 0 4 c (whole A B) := by
  have eA : ∀ (d : Dev nD) (i : Fin 3072) (k : Fin 1536), blkA m d (ix2 i k) = A (ix2 i (contrOf d k)) := fun d i k => by
    refine (congrFun (hA d) (ix2 i k)).trans (congrArg A (funext fun a => Fin.ext ?_))
    match a with
    | ⟨0, _⟩ => rfl
    | ⟨1, _⟩ => show d.val * 1536 + k.val = 1536 * d.val + k.val; omega
  have eB : ∀ (d : Dev nD) (k : Fin 1536) (t : Fin 3072), blkB m d (ix2 k t) = B (ix2 (contrOf d k) t) := fun d k t => by
    refine (congrFun (hB d) (ix2 k t)).trans (congrArg B (funext fun a => Fin.ext ?_))
    match a with
    | ⟨0, _⟩ => show d.val * 1536 + k.val = 1536 * d.val + k.val; omega
    | ⟨1, _⟩ => rfl
  funext i
  obtain ⟨r, t, rfl⟩ : ∃ (r : Fin 768) (t : Fin 3072), i = ix2 r t := ⟨i 0, i 1, eq_ix2 i⟩
  have e : (Layout.block ⟨2, ![768, 3072]⟩ ⟨2, ![3072, 3072]⟩ 0 4 c (whole A B) : S768x3072.Idx → EReal) (ix2 r t) = whole A B (ix2 (rowOf c r) t) := by
    refine congrArg (whole A B) (funext fun a => Fin.ext ?_)
    match a with
    | ⟨0, _⟩ => show c.val * 768 + r.val = 768 * c.val + r.val; omega
    | ⟨1, _⟩ => rfl
  have w : whole A B (ix2 (rowOf c r) t) = (∑ x : Fin 6144, A (ix2 (rowOf c r) x) * B (ix2 x t) : EReal) :=
    StackMember.dotGeneral_plain_apply none A B (rowOf c r) t
  refine (OUT_apply m c r t).trans (Eq.trans ?_ ((e.trans (w.trans (sum_contr _))).symm))
  exact Finset.sum_congr rfl fun d _ => Finset.sum_congr rfl fun k _ => congrArg₂ (· * ·) (eA d _ k) (eB d k t)

end Cert.RingProof

end
-- ==== Proof.lean ====
/-
  The proof of `Cert.Claim`: the matrix product reduced over a ring of four devices.

  The kernel's run is proved once, at any float values, in Proof/Launch.lean (`Cert.RingProof.run_main`): every run ends,
  with the result `OUT` on each device, the arguments unchanged and every semaphore at zero. Both frames of the kernel
  are read off it. Proof/Value.lean says what `OUT` is entry by entry over the extended reals, and Proof/Equation.lean
  that it is the device's block of the reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.RingProof

/-- The kernel at any float values: every run ends with the arguments unchanged and every semaphore at zero. -/
theorem frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run (Cert.KernelIdeal.defs (F := F)) _ _).mono (fun _ h => ⟨fun c => (h.1 c).2, h.2⟩) (run_main m g)

/-! The kernel and its idealization are one text, so their body tables are one. -/

theorem defs₀_eq {F : FTy → Type} [FloatOps F] : Cert.Kernel.defs₀ (F := F) = Cert.KernelIdeal.defs₀ (F := F) := by
  refine congrArg Defs.onTc (funext fun l => funext fun x => ?_)
  match l, x with
  | 0, (t, s) => rfl

theorem defs_eq {F : FTy → Type} [FloatOps F] : Cert.Kernel.defs (F := F) = Cert.KernelIdeal.defs (F := F) :=
  congrArg (Pipeline.defs Cert.Kernel.pcfgs) defs₀_eq

/-- The kernel over bit patterns, … -/
theorem frame_kernel : Cert.quiescent_Kernel := fun m g _ => by
  rw [defs_eq]
  exact frame (F := Bits) m g

/-- … and over the extended reals. -/
theorem frame_kernelIdeal : Cert.quiescent_KernelIdeal := fun m g _ => frame (F := Ideal) m g

/-- The reference declares no semaphore. -/
theorem frame_reference : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- The kernel's result is, device by device, the reference's. -/
theorem value : Cert.algebraic_KernelIdeal_ReferenceIdeal := by
  intro m g m' g' _ hm
  let A : FVec Ideal ⟨2, ![3072, 6144]⟩ .f32 := m' (((0 : Dev Cert.ReferenceIdeal.nD).tc : Thread Cert.ReferenceIdeal.nD Cert.ReferenceIdeal.τ).loc Cert.ReferenceIdeal.main_arg0)
  let B : FVec Ideal ⟨2, ![6144, 3072]⟩ .f32 := m' (((0 : Dev Cert.ReferenceIdeal.nD).tc : Thread Cert.ReferenceIdeal.nD Cert.ReferenceIdeal.τ).loc Cert.ReferenceIdeal.main_arg1)
  refine ⟨whole A B, ?_, ?_⟩
  · exact (θ_run (Cert.KernelIdeal.defs (F := Ideal)) _ _).mono
      (fun _ h c => ⟨(h.1 c).1.trans (out_block m A B (fun d => (hm d).1) (fun d => (hm d).2) c), (h.1 c).2⟩)
      (run_main (F := Ideal) m g)
  · exact (θ_run (Cert.ReferenceIdeal.defs (F := Ideal)) _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_reference, trivial, value⟩

end Cert.Proof

end
